-- ==== Defs.lean ====
def Pre_Kernel [hPre_positions_in_range : Cert.Pre_positions_in_range.Facts] (m : (ℓ : Loc Cert.Kernel.nD Cert.Kernel.τ Cert.Kernel.sig) → Buf (Elt Bits) ℓ) : Prop :=
  ∀ c : Dev Cert.Kernel.nD,
    (Cert.Pre_positions_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_positions_in_range : Cert.Pre_positions_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_positions_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positions_in_range [hPre_positions_in_range : Cert.Pre_positions_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positions_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_positions_in_range : Cert.Pre_positions_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_positions_in_range : Cert.Pre_positions_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_positions_in_range [hReferenceIdeal : Cert.ReferenceIdeal.Facts] [hPre_positions_in_range : Cert.Pre_positions_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positions_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_positions_in_range : Cert.Pre_positions_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_positions_in_range : Cert.Pre_positions_in_range.Facts),
    quiescent_Kernel (hKernel := hKernel) (hPre_positions_in_range := hPre_positions_in_range)
    ∧ quiescent_KernelIdeal (hKernelIdeal := hKernelIdeal) (hPre_positions_in_range := hPre_positions_in_range)
    ∧ quiescent_ReferenceIdeal (hReferenceIdeal := hReferenceIdeal)
    ∧ quiescent_ReferenceIdeal_pre_positions_in_range (hReferenceIdeal := hReferenceIdeal) (hPre_positions_in_range := hPre_positions_in_range)
    ∧ preserves_Kernel_KernelIdeal
    ∧ algebraic_KernelIdeal_ReferenceIdeal (hKernelIdeal := hKernelIdeal) (hReferenceIdeal := hReferenceIdeal) (hPre_positions_in_range := hPre_positions_in_range)
-- ==== Pre_positions_in_range.lean ====
abbrev S4x8192 : Shape := ⟨2, ![4, 8192]⟩
abbrev S8192x128 : Shape := ⟨2, ![8192, 128]⟩
abbrev S_ : Shape := ⟨0, ![]⟩

class Facts : Prop where
  bcast_S_S4x8192 : S_.BroadcastsInDim S4x8192 (![] : Fin 0 → Fin S4x8192.rank)
  reducesTo_S4x8192_S_d0_1 : S4x8192.ReducesTo [0, 1] S_
  h_S_ : 0 < S_.numel

variable [Facts]

def fn {F : FTy → Type} [FloatOps F] (main_arg0 : IVec S4x8192 32) (main_arg1 : FVec F S8192x128 .f32) (main_arg2 : FVec F S8192x128 .f32) : IVec S_ 1 :=
  let main_c : IVec S_ 32 := constantI S_ 32 0#32
  let main_v0 : IVec S4x8192 32 := broadcastInDim S4x8192 ![] bcast_S_S4x8192 main_c
  let main_v1 : IVec S4x8192 1 := cmpi .sge main_arg0 main_v0
  let main_c_0 : IVec S_ 32 := constantI S_ 32 8192#32
  let main_v2 : IVec S4x8192 32 := broadcastInDim S4x8192 ![] bcast_S_S4x8192 main_c_0
  let main_v3 : IVec S4x8192 1 := cmpi .slt main_arg0 main_v2
  let main_v4 : IVec S4x8192 1 := andi main_v1 main_v3
  let main_c_1 : IVec S_ 1 := constantI S_ 1 1#1
  let main_v5 : IVec S_ 1 := (fun x v => Host.reduce IntOp.andi x v reducesTo_S4x8192_S_d0_1 h_S_) main_v4 main_c_1
  main_v5
-- ==== Kernel.lean ====
abbrev S4x8192 : Shape := ⟨2, ![4, 8192]⟩
abbrev S8192x128 : Shape := ⟨2, ![8192, 128]⟩
abbrev S32x8x128 : Shape := ⟨3, ![32, 8, 128]⟩
abbrev S32768x128 : Shape := ⟨2, ![32768, 128]⟩
abbrev S8x128 : Shape := ⟨2, ![8, 128]⟩
abbrev S128x128 : Shape := ⟨2, ![128, 128]⟩
abbrev S_ : Shape := ⟨0, ![]⟩
abbrev S1x8x128 : Shape := ⟨3, ![1, 8, 128]⟩
abbrev S1x128 : Shape := ⟨2, ![1, 128]⟩
abbrev S128 : Shape := ⟨1, ![128]⟩
abbrev S4x8192x128 : Shape := ⟨3, ![4, 8192, 128]⟩

abbrev nBuf : Table → Nat
  | .hbm => 8
  | .local .scVector .vmem => 3
  | _ => 0

abbrev bufTy : (tb : Table) → Fin (nBuf tb) → BufTy
  | .hbm, ⟨0, _⟩ => ⟨S4x8192, .i32⟩
  | .hbm, ⟨1, _⟩ => ⟨S8192x128, .f32⟩
  | .hbm, ⟨2, _⟩ => ⟨S8192x128, .f32⟩
  | .hbm, ⟨3, _⟩ => ⟨S32x8x128, .i32⟩
  | .hbm, ⟨4, _⟩ => ⟨S32768x128, .f32⟩
  | .hbm, ⟨5, _⟩ => ⟨S32768x128, .f32⟩
  | .hbm, ⟨6, _⟩ => ⟨S4x8192x128, .f32⟩
  | .hbm, ⟨7, _⟩ => ⟨S4x8192x128, .f32⟩
  | .local .scVector .vmem, ⟨0, _⟩ => ⟨S8x128, .i32⟩
  | .local .scVector .vmem, ⟨1, _⟩ => ⟨S128x128, .f32⟩
  | .local .scVector .vmem, ⟨2, _⟩ => ⟨S128x128, .f32⟩
  | _, _ => ⟨S4x8192, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v0_scv : Ref sig .scVector := ⟨.hbm, 3, rfl⟩
abbrev main_arg1_scv : Ref sig .scVector := ⟨.hbm, 1, rfl⟩
abbrev main_arg2_scv : Ref sig .scVector := ⟨.hbm, 2, rfl⟩
abbrev main_v1_0_scv : Ref sig .scVector := ⟨.hbm, 4, rfl⟩
abbrev main_v1_1_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_129_r0 : BitVec 32 := 0#32
  let c0_i32_130_r0 : BitVec 32 := 0#32
  ![v1.toNat, 0, 0]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi v2 c0_i32
  let c0_i32_129_r1 : BitVec 32 := 0#32
  ![v3.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x8192 : Shape := ⟨2, ![4, 8192]⟩
abbrev S8192x128 : Shape := ⟨2, ![8192, 128]⟩
abbrev S_ : Shape := ⟨0, ![]⟩
abbrev S4x8192x1 : Shape := ⟨3, ![4, 8192, 1]⟩
abbrev S1 : Shape := ⟨1, ![1]⟩
abbrev S1x1x1 : Shape := ⟨3, ![1, 1, 1]⟩
abbrev S4x8192x128 : Shape := ⟨3, ![4, 8192, 128]⟩

abbrev nBuf : Space → Nat
  | .hbm => 49
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S8192x128, .f32⟩
  | .hbm, ⟨2, _⟩ => ⟨S8192x128, .f32⟩
  | .hbm, ⟨3, _⟩ => ⟨S_, .i32⟩
  | .hbm, ⟨4, _⟩ => ⟨S4x8192, .i32⟩
  | .hbm, ⟨5, _⟩ => ⟨S4x8192, .i1⟩
  | .hbm, ⟨6, _⟩ => ⟨S_, .i32⟩
  | .hbm, ⟨7, _⟩ => ⟨S4x8192, .i32⟩
  | .hbm, ⟨8, _⟩ => ⟨S4x8192, .i32⟩
  | .hbm, ⟨9, _⟩ => ⟨S4x8192, .i32⟩
  | .hbm, ⟨10, _⟩ => ⟨S4x8192x1, .i32⟩
  | .hbm, ⟨11, _⟩ => ⟨S1, .i32⟩
  | .hbm, ⟨12, _⟩ => ⟨S_, .i32⟩
  | .hbm, ⟨13, _⟩ => ⟨S4x8192x1, .i32⟩
  | .hbm, ⟨14, _⟩ => ⟨S4x8192x1, .i1⟩
  | .hbm, ⟨15, _⟩ => ⟨S1x1x1, .i32⟩
  | .hbm, ⟨16, _⟩ => ⟨S4x8192x1, .i32⟩
  | .hbm, ⟨17, _⟩ => ⟨S4x8192x1, .i1⟩
  | .hbm, ⟨18, _⟩ => ⟨S4x8192x1, .i1⟩
  | .hbm, ⟨19, _⟩ => ⟨S_, .i1⟩
  | .hbm, ⟨20, _⟩ => ⟨S4x8192, .i1⟩
  | .hbm, ⟨21, _⟩ => ⟨S4x8192x128, .f32⟩
  | .hbm, ⟨22, _⟩ => ⟨S4x8192x128, .i1⟩
  | .hbm, ⟨23, _⟩ => ⟨S_, .f32⟩
  | .hbm, ⟨24, _⟩ => ⟨S4x8192x128, .f32⟩
  | .hbm, ⟨25, _⟩ => ⟨S4x8192x128, .f32⟩
  | .hbm, ⟨26, _⟩ => ⟨S_, .i32⟩
  | .hbm, ⟨27, _⟩ => ⟨S4x8192, .i32⟩
  | .hbm, ⟨28, _⟩ => ⟨S4x8192, .i1⟩
  | .hbm, ⟨29, _⟩ => ⟨S_, .i32⟩
  | .hbm, ⟨30, _⟩ => ⟨S4x8192, .i32⟩
  | .hbm, ⟨31, _⟩ => ⟨S4x8192, .i32⟩
  | .hbm, ⟨32, _⟩ => ⟨S4x8192, .i32⟩
  | .hbm, ⟨33, _⟩ => ⟨S4x8192x1, .i32⟩
  | .hbm, ⟨34, _⟩ => ⟨S1, .i32⟩
  | .hbm, ⟨35, _⟩ => ⟨S_, .i32⟩
  | .hbm, ⟨36, _⟩ => ⟨S4x8192x1, .i32⟩
  | .hbm, ⟨37, _⟩ => ⟨S4x8192x1, .i1⟩
  | .hbm, ⟨38, _⟩ => ⟨S1x1x1, .i32⟩
  | .hbm, ⟨39, _⟩ => ⟨S4x8192x1, .i32⟩
  | .hbm, ⟨40, _⟩ => ⟨S4x8192x1, .i1⟩
  | .hbm, ⟨41, _⟩ => ⟨S4x8192x1, .i1⟩
  | .hbm, ⟨42, _⟩ => ⟨S_, .i1⟩
  | .hbm, ⟨43, _⟩ => ⟨S4x8192, .i1⟩
  | .hbm, ⟨44, _⟩ => ⟨S4x8192x128, .f32⟩
  | .hbm, ⟨45, _⟩ => ⟨S4x8192x128, .i1⟩
  | .hbm, ⟨46, _⟩ => ⟨S_, .f32⟩
  | .hbm, ⟨47, _⟩ => ⟨S4x8192x128, .f32⟩
  | .hbm, ⟨48, _⟩ => ⟨S4x8192x128, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v1 : Ref sig .tc := ⟨.hbm, 48, rfl⟩

abbrev nD : Nat := 1
abbrev τ : Topo := Topo.v7x

variable {F : FTy → Type} [FloatOps F]
-- ==== Proof.Rows.lean ====
/-
  What the two results hold, in plain terms: row `j` of a result is the table's row that the `j`-th row number names. The row
  numbers lie in a [32, 8, 128] array, one plane of 8 lists of 128 per tile, so that row number `j` is entry
  (j / 1024, j / 128 mod 8, j mod 128). A row number is read modulo the table's 8192 rows, which makes the statement total;
  under the certificate's precondition it is the number itself.
-/
module

public import Idealize.ShloMosaic.Lib.ValueIdxCore
public import Idealize.ShloMosaic.Lib.SparseCore.Stream
public import Idealize.ShloMosaic.PureOps

@[expose] public section

noncomputable section

namespace Cert.Rows

open Idealize.ShloMosaic Idealize.ShloMosaic.ValueIdx

/-- The shapes: the row numbers by tile and chunk, a table, a result, a tile's own list, and one chunk of rows. -/
abbrev Planes : Shape := ⟨3, ![32, 8, 128]⟩
abbrev Table : Shape := ⟨2, ![8192, 128]⟩
abbrev Result : Shape := ⟨2, ![32768, 128]⟩
abbrev Lists : Shape := ⟨2, ![8, 128]⟩
abbrev Chunk : Shape := ⟨2, ![128, 128]⟩

/-- The table row a word names. -/
def row (w : BitVec 32) : Fin 8192 := ⟨w.toNat % 8192, Nat.mod_lt _ (by decide)⟩

/-- A word in range names the row of its own value. -/
theorem row_val {w : BitVec 32} (h : w.toNat < 8192) : (row w).val = w.toNat := Nat.mod_eq_of_lt h

/-- Where the row number of result row `n` lies. -/
def place (n : Fin 32768) : Planes.Idx :=
  ix3 (⟨n.val / 1024, by omega⟩ : Fin 32) (⟨n.val / 128 % 8, by omega⟩ : Fin 8) (⟨n.val % 128, by omega⟩ : Fin 128)

variable {α : Type}

/-- A result: each row the table's row its row number names. -/
def gathered (T : Table.Idx → α) (I : Planes.Idx → BitVec 32) : Result.Idx → α :=
  fun j => T (ix2 (row (I (place (j 0)))) (j 1))

/-- One chunk of rows: those that row `r` of a tile's lists names. -/
def chunkRows (T : Table.Idx → α) (L : Lists.Idx → BitVec 32) (r : Fin 8) : Chunk.Idx → α :=
  fun j => T (ix2 (row (L (ix2 r (j 0)))) (j 1))

/-- A tile's lists: plane `t` of the row numbers. -/
def listsOf (I : Planes.Idx → BitVec 32) (t : Fin 32) : Lists.Idx → BitVec 32 := fun x => I (ix3 t (x 0) (x 1))

/-- The tile on core `c` and subcore `s` takes plane `2 s + c`. -/
def tile (c : Fin 2) (s : Fin 16) : Fin 32 := ⟨2 * s.val + c.val, by omega⟩

/-- Chunk `r` of a tile's plane is the result's 128 rows from `2048 s + 1024 c + 128 r` on. -/
theorem chunkRows_listsOf (T : Table.Idx → α) (I : Planes.Idx → BitVec 32) (c : Fin 2) (s : Fin 16) (r : Fin 8) (x : Chunk.Idx)
    (y : Result.Idx) (h0 : (y 0).val = 2048 * s.val + 1024 * c.val + 128 * r.val + (x 0).val) (h1 : (y 1).val = (x 1).val) :
    chunkRows T (listsOf I (tile c s)) r x = gathered T I y := by
  have hx : (x 0).val < 128 := idx2_lt0 x
  have hp : place (y 0) = ix3 (tile c s) r (x 0) := by
    funext a
    match a with
    | ⟨0, _⟩ => exact Fin.ext (show (y 0).val / 1024 = 2 * s.val + c.val by omega)
    | ⟨1, _⟩ => exact Fin.ext (show (y 0).val / 128 % 8 = r.val by omega)
    | ⟨2, _⟩ => exact Fin.ext (show (y 0).val % 128 = (x 0).val by omega)
  have h1' : (y 1 : Fin 128) = x 1 := Fin.ext h1
  show T (ix2 (row (I (ix3 (tile c s) r (x 0)))) (x 1)) = T (ix2 (row (I (place (y 0)))) (y 1))
  rw [hp, h1']; rfl

end Cert.Rows

end
-- ==== Proof.KernelIdeal.Program.lean ====
/-
  The task's program, folded. The printed task is one straight line: it fetches its 1024 row numbers and then repeats the
  same eight transfers for each of its eight chunks of 128 rows. Here one chunk is written once, at a chunk number `r`, and
  the printed line is shown to be the fetch followed by the eight chunks.
-/
module

public import proofs.«01_k».proof.Proof.Gen.KernelIdeal.Skeleton

@[expose] public section

noncomputable section

namespace Cert.KernelIdeal.Run

open Cert.KernelIdeal.Gen
open Idealize.ShloMosaic Idealize.SL.Sem

variable {F : FTy → Type} [FloatOps F]

/-! ## The memrefs the task names -/

/-- The row numbers, in main memory. -/
abbrev mIdx : Memref sig .scVector .hbm S32x8x128 .i32 := Memref.whole main_v0_scv
/-- The two tables. -/
abbrev mCos : Memref sig .scVector .hbm S8192x128 .f32 := Memref.whole main_arg1_scv
abbrev mSin : Memref sig .scVector .hbm S8192x128 .f32 := Memref.whole main_arg2_scv
/-- The two results. -/
abbrev mOutC : Memref sig .scVector .hbm S32768x128 .f32 := Memref.whole main_v1_0_scv
abbrev mOutS : Memref sig .scVector .hbm S32768x128 .f32 := Memref.whole main_v1_1_scv
/-- The tile's own buffers: the row numbers it fetched, and one chunk of rows of each table. -/
abbrev mList : Memref sig .scVector .vmem S8x128 .i32 := Memref.whole cc0_scratch0
abbrev mCbuf : Memref sig .scVector .vmem S128x128 .f32 := Memref.whole cc0_scratch1
abbrev mSbuf : Memref sig .scVector .vmem S128x128 .f32 := Memref.whole cc0_scratch2

/-- The semaphore of chunk `r`'s write-out of the first result. -/
abbrev outSemC : Fin 8 → DmaSems sig S_ :=
  ![cc0_scoped1, cc0_scoped3, cc0_scoped5, cc0_scoped7, cc0_scoped9, cc0_scoped11, cc0_scoped13, cc0_scoped15]
/-- The semaphore of chunk `r`'s write-out of the second result. -/
abbrev outSemS : Fin 8 → DmaSems sig S_ :=
  ![cc0_scoped2, cc0_scoped4, cc0_scoped6, cc0_scoped8, cc0_scoped10, cc0_scoped12, cc0_scoped14, cc0_scoped16]

/-- Row `r` of the tile's list lies inside it. -/
theorem listRow_inb (r : Fin 8) : ∀ a, (![r.val, 0] : Fin 2 → ℕ) a + S1x128.size a ≤ S8x128.size a := by
  revert r; decide

/-- The tile's plane of the row numbers, as the fetch addresses it. -/
abbrev plane (i : grid0.Coords) : Memref sig .scVector .hbm S8x128 .i32 :=
  (mIdx.slice (Rect.unit (s := S32x8x128) (k0_off1 i) S1x8x128.size (k0_off1_inb i)) (fun _ => rfl)).squeeze S8x128 squeezes_S1x8x128_S8x128
/-- Row `r` of the tile's list: the row numbers of chunk `r`. -/
abbrev listRow (r : Fin 8) : Memref sig .scVector .vmem S128 .i32 :=
  (mList.slice (Rect.unit (s := S8x128) ![r.val, 0] S1x128.size (listRow_inb r)) (fun _ => rfl)).squeeze S128 squeezes_S1x128_S128
/-- All of a table, as a gather addresses it. -/
abbrev allOf (t : Memref sig .scVector .hbm S8192x128 .f32) : Memref sig .scVector .hbm S8192x128 .f32 :=
  t.slice (Rect.unit (s := S8192x128) ![0, 0] S8192x128.size inb_S8192x128_S8192x128_0_0) (fun _ => rfl)
/-- The 128 rows of a result that chunk `r` of the tile at `i` fills. -/
abbrev block (o : Memref sig .scVector .hbm S32768x128 .f32) (i : grid0.Coords) (r : Fin 8) : Memref sig .scVector .hbm S128x128 .f32 :=
  o.slice (Rect.unit (s := S32768x128) (k0_off2 i (BitVec.ofNat 32 (128 * r.val))) S128x128.size (k0_off2_inb i r)) (fun _ => rfl)

/-! ## The program's pieces -/

/-- The task's programs run on the tile that the coordinates name. -/
abbrev TileProg (F : FTy → Type) (i : grid0.Coords) : Type 1 :=
  Prog (TpuEff nD τ sig (Elt F) Λ₀ (.scVector ((i 0).castLE hcore0) ((i 1).castLE hsub0))) PUnit

/-- Fetch the tile's row numbers and wait for them. -/
def fetch (i : grid0.Coords) : TileProg F i := do
  Prog.lift (.enqueueDma (plane i) (.here mList) (.dma cc0_scoped0.sem) ((View.wordExact_bits rfl).reshape _ _)
    (Memref.isWhole_whole _).wordExact ⟨Or.inl rfl, trivial⟩)
  Prog.lift (.waitDma2 cc0_scoped0.sem (plane i) mList ((View.wordExact_bits rfl).reshape _ _) (Memref.isWhole_whole _).wordExact)

/-- Start the gather of chunk `r`'s rows of one table into a buffer. -/
def startGather (i : grid0.Coords) (t : Memref sig .scVector .hbm S8192x128 .f32) (b : Memref sig .scVector .vmem S128x128 .f32)
    (s : DmaSems sig S_) (r : Fin 8) : TileProg F i :=
  SparseCore.enqueueIndirectGather rfl (allOf t) b gathers_S8192x128_S128x128 (listRow r) rfl s.sem (View.wordExact_bits rfl) rfl (Or.inl rfl)

/-- Copy a buffer out to chunk `r`'s rows of one result and wait for the copy. -/
def writeOut (i : grid0.Coords) (b : Memref sig .scVector .vmem S128x128 .f32) (hb : b.IsWhole)
    (o : Memref sig .scVector .hbm S32768x128 .f32) (s : DmaSems sig S_) (r : Fin 8) : TileProg F i := do
  Prog.lift (.enqueueDma b (.here (block o i r)) (.dma s.sem) hb.wordExact (View.wordExact_bits rfl) ⟨Or.inl rfl, trivial⟩)
  Prog.lift (.waitDma2 s.sem b (block o i r) hb.wordExact (View.wordExact_bits rfl))

/-- Chunk `r`: gather its rows of both tables at once, wait for both, write both out. -/
def chunk (i : grid0.Coords) (r : Fin 8) : TileProg F i := do
  startGather i mCos mCbuf cc0_scratch3 r
  startGather i mSin mSbuf cc0_scratch4 r
  SparseCore.waitIndirectGather cc0_scratch3.sem (allOf mCos) mCbuf (View.wordExact_bits rfl) (Memref.isWhole_whole _).wordExact
  SparseCore.waitIndirectGather cc0_scratch4.sem (allOf mSin) mSbuf (View.wordExact_bits rfl) (Memref.isWhole_whole _).wordExact
  writeOut i mCbuf (Memref.isWhole_whole _) mOutC (outSemC r) r
  writeOut i mSbuf (Memref.isWhole_whole _) mOutS (outSemS r) r

/-- A list of chunks in order. -/
def chunks (i : grid0.Coords) : List (Fin 8) → TileProg F i
  | [] => pure ⟨⟩
  | r :: rs => chunk i r >>= fun _ => chunks i rs

/-- The printed task at its memrefs and semaphores. -/
abbrev task (i : grid0.Coords) : TileProg F i :=
  cc0__gather_kernel i mIdx (Memref.isWhole_whole _) mCos (Memref.isWhole_whole _) mSin (Memref.isWhole_whole _)
    mOutC (Memref.isWhole_whole _) mOutS (Memref.isWhole_whole _) mList (Memref.isWhole_whole _) mCbuf (Memref.isWhole_whole _)
    mSbuf (Memref.isWhole_whole _) cc0_scratch3 cc0_scratch4 cc0_scoped0 cc0_scoped1 cc0_scoped2 cc0_scoped3 cc0_scoped4 cc0_scoped5
    cc0_scoped6 cc0_scoped7 cc0_scoped8 cc0_scoped9 cc0_scoped10 cc0_scoped11 cc0_scoped12 cc0_scoped13 cc0_scoped14 cc0_scoped15 cc0_scoped16

set_option maxRecDepth 65536 in
/-- The printed task is the fetch followed by the eight chunks in order. -/
theorem task_eq (i : grid0.Coords) : task (F := F) i = (fetch i >>= fun _ => chunks i [0, 1, 2, 3, 4, 5, 6, 7]) := by
  rfl

end Cert.KernelIdeal.Run

end
-- ==== Proof.KernelIdeal.Chunk.lean ====
/-
  One chunk of the task, at any chunk number and on any tile: both gathers, their waits, and the two write-outs. It leaves in
  the chunk's rows of each result the rows of the table that the tile's list names.
-/
module

public import proofs.«01_k».proof.Proof.Rows
public import proofs.«01_k».proof.Proof.KernelIdeal.Program
public import Idealize.ShloMosaic.Lib.SparseCore.Quiescent
public import Idealize.ShloMosaic.Lib.SparseCore.Ops
public import Idealize.ShloMosaic.Lib.SparseCore.FromWhole
public import Idealize.ShloMosaic.Lib.Tactic

@[expose] public section

noncomputable section

namespace Cert.KernelIdeal.Run

open Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The ghost state: the launch's handshakes and the transfers' counters -/

abbrev UH : Type := URounds (GSem nD τ sig) ℕ
abbrev UU : Type := UH × Counters

local notation "𝕄" => MT nD τ sig (HIx 1) (Elt F) ℕ UU ℕ

/-- The tile that runs the task at the coordinates `i`. -/
abbrev thr (d : Dev nD) (i : grid0.Coords) : Thread nD τ := V d ((i 0).castLE hcore0) ((i 1).castLE hsub0)

/-! ## Values -/

/-- A row's list, read through its view, is that row of the tile's lists. -/
theorem read_listRow (L : S8x128.Idx → BitVec 32) (r : Fin 8) (x : S128.Idx) :
    (listRow r).view.read (Elt F) L x = L (ix2 r (x 0)) := by
  have e : (listRow r).view.emb x = ix2 r (x 0) := by
    show (Rect.unit (s := S8x128) ![r.val, 0] S1x128.size (listRow_inb r)).emb (Shape.reshapeEquiv squeezes_S1x128_S128.numel_eq x) = _
    rw [show Shape.reshapeEquiv squeezes_S1x128_S128.numel_eq x = (ix2 (0 : Fin 1) (x 0) : S1x128.Idx) from
      Shape.reshapeEquiv_eq_of_rowMajor _ (by rw [Shape.rowMajor_val_two, Shape.rowMajor_val_one]; simp)]
    funext a
    apply Fin.ext
    match a with
    | ⟨0, _⟩ => simp [Rect.emb_apply]
    | ⟨1, _⟩ => simp [Rect.emb_apply]
  rw [View.read_apply, e]; rfl

/-- What a gather lands: the rows of the table that the list names. -/
theorem payload_eq (G : S8192x128.Idx → Elt F .f32) (L : S8x128.Idx → BitVec 32) (r : Fin 8)
    (hn : S128.numel = S128x128.size gathers_S8192x128_S128x128.axis')
    (hin : ∀ x, ((listRow r).view.read (Elt F) L x).toNat < S8192x128.size gathers_S8192x128_S128x128.axis) :
    SparseCore.gatherPayload (F := F) (e := .f32) gathers_S8192x128_S128x128 G (SparseCore.rows ((listRow r).view.read (Elt F) L) hn hin)
      = Rows.chunkRows G L r := by
  funext j
  unfold SparseCore.gatherPayload Rows.chunkRows
  congr 1
  have hk : ∀ k : Fin 128, S128.rowMajor.symm (k.cast hn.symm) = (ix1 k : S128.Idx) := fun k => by
    apply S128.rowMajor.injective; apply Fin.ext
    rw [Equiv.apply_symm_apply, Shape.rowMajor_val_one]; rfl
  funext a
  apply Fin.ext
  match a with
  | ⟨0, _⟩ =>
    refine (congrArg Fin.val (Shape.Gathers.idx_axis gathers_S8192x128_S128x128 _ j)).trans ?_
    show ((listRow r).view.read (Elt F) L (S128.rowMajor.symm ((j 0).cast hn.symm))).toNat = (Rows.row (L (ix2 r (j 0)))).val
    have h := hin (ix1 (j 0))
    have e : S128.rowMajor.symm ((j 0).cast hn.symm) = ix1 (n := 128) (j 0) := hk (j 0)
    have e' : View.read (Elt F) (listRow r).view L (ix1 (n := 128) (j 0)) = L (ix2 r (j 0)) := read_listRow L r _
    refine (congrArg (fun z => (View.read (Elt F) (listRow r).view L z).toNat) e).trans ?_
    refine (congrArg BitVec.toNat e').trans (Rows.row_val ?_).symm
    rw [← e']; exact h
  | ⟨1, _⟩ =>
    exact Shape.Gathers.idx_of_ne gathers_S8192x128_S128x128 _ j ⟨1, by decide⟩ (by decide)

/-- A gather's source view names all of the table. -/
theorem read_allOf_cos (T : S8192x128.Idx → Elt F .f32) : (allOf mCos).view.read (Elt F) T = T := by
  funext x
  have e : (allOf mCos).view.emb x = x := by
    funext a; apply Fin.ext
    match a with
    | ⟨0, _⟩ => show 0 + 1 * (x 0).val = (x 0).val; omega
    | ⟨1, _⟩ => show 0 + 1 * (x 1).val = (x 1).val; omega
  rw [View.read_apply, e]; rfl

/-- The same of the other table. -/
theorem read_allOf_sin (T : S8192x128.Idx → Elt F .f32) : (allOf mSin).view.read (Elt F) T = T := read_allOf_cos T

/-- The tile's number: its plane of the row numbers. -/
abbrev tileOf (i : grid0.Coords) : Fin 32 := Rows.tile (i 0) (i 1)

/-- What chunk `r` of the tile at `i` gathers is the result's own rows in the chunk's block. -/
theorem block_value (i : grid0.Coords) (r : Fin 8) (T : S8192x128.Idx → Elt F .f32) (I : S32x8x128.Idx → BitVec 32) :
    (block mOutC i r).view.read (Elt F) (Rows.gathered T I) = Rows.chunkRows T (Rows.listsOf I (tileOf i)) r := by
  funext x
  refine Eq.trans ?_ (Rows.chunkRows_listsOf T I (i 0) (i 1) r x ((block mOutC i r).view.emb x) ?_ ?_).symm
  · rfl
  · show k0_off2 i (BitVec.ofNat 32 (128 * r.val)) 0 + 1 * (x 0).val = _
    rw [k0_off2_eq i r]; simp
  · show k0_off2 i (BitVec.ofNat 32 (128 * r.val)) 1 + 1 * (x 1).val = _
    rw [k0_off2_eq i r]; simp

/-- A write-out of what a block of `G` holds leaves `G` on the block. -/
theorem block_write (o : Memref sig .scVector .hbm S32768x128 .f32) (i : grid0.Coords) (r : Fin 8)
    (fd G : (block o i r).view.ty.Contents (Elt F)) (p : S128x128.Idx → Elt F .f32) (hp : (block o i r).view.read (Elt F) G = p) :
    ∀ y ∈ (block o i r).view.set, (block o i r).view.write (Elt F) fd p Finset.univ y = G y := by
  intro y hy
  obtain ⟨x, -, rfl⟩ := Finset.mem_map.mp hy
  rw [View.write_emb_of_mem _ _ (Finset.mem_univ x), ← hp, View.read_apply, cast_cast, cast_eq]

variable [FloatOps F]

/-! ## The copies -/

section

variable (d : Dev nD) (i : grid0.Coords) {Q : PUnit → sProp (MT nD τ sig (HIx 1) (Elt F) ℕ UU ℕ)} {O : CellTallies nD τ sig (HIx 1)} {W : Waits sig (HIx 1)}

/-- What the tile owes after waits of its own: the waits recorded since `W` are its own transfers'. -/
def owed (d : Dev nD) (i : grid0.Coords) (O : CellTallies nD τ sig (HIx 1)) (W : Waits sig (HIx 1)) : sProp 𝕄 :=
  iprop(∃ W', ⌜∀ p ∈ W', p ∈ W ∨ p.2 = none⌝ ∗ owes (thr d i) O W')

theorem owed_def (O : CellTallies nD τ sig (HIx 1)) (W : Waits sig (HIx 1)) :
    (owed d i O W : sProp 𝕄) = iprop(∃ W', ⌜∀ p ∈ W', p ∈ W ∨ p.2 = none⌝ ∗ owes (thr d i) O W') := rfl

/-- One more wait on one of the tile's transfers. -/
theorem owed_insert (sm : SemLoc sig) (W' : Waits sig (HIx 1)) (h : ∀ p ∈ W', p ∈ W ∨ p.2 = none) :
    (owes (thr d i) O (insert (sm, (default : HIx 1)) W') : sProp 𝕄) ⊢ owed d i O W := by
  unfold owed
  iintro HO
  iexists _; isplitr
  swap; · iexact HO
  ipureintro; intro p hp
  rcases Finset.mem_insert.mp hp with hp | hp
  · exact .inr (hp ▸ rfl)
  · exact h p hp

/-- A wait for one of the tile's own transfers in flight: what it delivers, the semaphore at zero again, the wait recorded. -/
theorem wp_wait {sp sp' : Space} {s s' : Shape} {e e' : EltTy} {κ' : Kind} {sem : DmaSem sig} {srcw : Memref sig .scVector sp' s' e'}
    {dstw : Memref sig κ' sp s e} {hsrc : srcw.view.WordExact} {hdst : dstw.view.WordExact} {N : ℕ} (hN : dstw.view.dmaCredit = N)
    {D : sProp 𝕄} (k : PUnit → TileProg F i) :
    iprop(Transfers.Flight countersEmb (thr d i) (.dma sem) (default : HIx 1) N D ∗ owed d i O W ∗ Transfers.MayWaits (thr d i) (default : HIx 1) O)
      ⊢ iprop((iprop(D ∗ semVal (thr d i, SemLoc.dma sem) 0 ∗ owed d i O W)
            -∗ wp frame (wpE (defs₀ (F := F)) Variants.none (thr d i) none) Set.univ (k ⟨⟩) Q)
          -∗ wp frame (wpE (defs₀ (F := F)) Variants.none (thr d i) none) Set.univ (.op (.waitDma2 sem srcw dstw hsrc hdst) k) Q) := by
  iintro ⟨Hfl, HO, Hmw⟩ Hk
  ihave HO := (Entails.of_eq (owed_def d i O W)) $$ HO
  icases HO with ⟨%W', %hW', HO⟩
  iapply (Transfers.wp_waitLocalO countersEmb Variants.none (thr d i) none (default : HIx 1) hN) $$ [Hfl HO Hmw]
  · isplitl [Hfl]; · iexact Hfl
    isplitl [HO]; · iexact HO
    iapply (Transfers.MayWaits.elim (SemLoc.dma sem)) $$ Hmw
  iintro ⟨HD, Hv, HO⟩
  iapply Hk
  isplitl [HD]; · iexact HD
  isplitl [Hv]; · iexact Hv
  iapply (owed_insert d i (SemLoc.dma sem) W' hW'); iexact HO

/-- A buffer written whole is at contents that read as what was written. -/
theorem written_known (b : Memref sig .scVector .vmem S128x128 .f32) (w : Buf (Elt F) (b.view.loc (thr d i)))
    (p g : S128x128.Idx → Elt F .f32) (h : p = g) {A B : sProp (MT nD τ sig (HIx 1) (Elt F) ℕ UU ℕ)} :
    iprop((b.view.loc (thr d i) ↦{fullShare} b.view.write (Elt F) w p Finset.univ) ∗ A ∗ B)
      ⊢ iprop((∃ w' : Buf (Elt F) (b.view.loc (thr d i)), ⌜b.view.read (Elt F) w' = g⌝ ∗ b.view.loc (thr d i) ↦{fullShare} w') ∗ A ∗ B) := by
  iintro ⟨Hb, HA, HB⟩
  isplitl [Hb]
  · iexists _; isplitr
    swap; · iexact Hb
    ipureintro; rw [View.read_write_univ, h]
  isplitl [HA]; · iexact HA
  iexact HB

/-- A gather started: in flight, delivering the buffer at the chunk's rows and the table's share and the list's back. -/
theorem wp_startGather (t : Memref sig .scVector .hbm S8192x128 .f32) (b : Memref sig .scVector .vmem S128x128 .f32) (s : DmaSems sig S_)
    (r : Fin 8) {q ql : PosShare TreeShare} (T : Buf (Elt F) ((allOf t).view.loc (thr d i))) (w : Buf (Elt F) (b.view.loc (thr d i)))
    (L : S8x128.Idx → BitVec 32) (G : S8192x128.Idx → Elt F .f32) (hT : (allOf t).view.read (Elt F) T = G) (hL : ∀ x, (L x).toNat < 8192)
    (hN : ∑ j, (b.slice (S128x128.rowRect gathers_S8192x128_S128x128.axis' j) (S128x128.stride_rowRect gathers_S8192x128_S128x128.axis' j)).view.dmaCredit
      = b.view.dmaCredit)
    (k : PUnit → TileProg F i) :
    iprop(((allOf t).view.loc (thr d i) ↦{q} T) ∗ (b.view.loc (thr d i) ↦{fullShare} w) ∗ ((listRow r).view.loc (thr d i) ↦{ql} L)
        ∗ semVal (thr d i, SemLoc.dma s.sem) 0)
      ⊢ iprop(((Transfers.Flight countersEmb (thr d i) (.dma s.sem) (default : HIx 1) b.view.dmaCredit
              iprop((∃ w' : Buf (Elt F) (b.view.loc (thr d i)), ⌜b.view.read (Elt F) w' = Rows.chunkRows G L r⌝ ∗ b.view.loc (thr d i) ↦{fullShare} w')
                ∗ ((allOf t).view.loc (thr d i) ↦{q} T) ∗ ((listRow r).view.loc (thr d i) ↦{ql} L)) : sProp 𝕄)
            -∗ wp frame (wpE (defs₀ (F := F)) Variants.none (thr d i) none) Set.univ (k ⟨⟩) Q)
          -∗ wp frame (wpE (defs₀ (F := F)) Variants.none (thr d i) none) Set.univ (startGather i t b s r >>= k) Q) := by
  have hin : ∀ x, ((listRow r).view.read (Elt F) L x).toNat < S8192x128.size gathers_S8192x128_S128x128.axis := fun x => by
    rw [read_listRow]; exact hL _
  iintro ⟨Ht, Hb, Hl, Hv⟩ Hk
  iapply (SparseCore.wp_gatherFromWhole countersEmb Variants.none (thr d i) none (default : HIx 1) b.view.dmaCredit hN (by decide) hin) $$ [Ht Hb Hl Hv]
  · iframe Ht Hb Hl Hv
  iintro Hfl
  iapply Hk
  iapply (Transfers.Flight_mono countersEmb (thr d i) (written_known d i b w _ _ ((congrArg (fun z => SparseCore.gatherPayload gathers_S8192x128_S128x128 z (SparseCore.rows ((listRow r).view.read (Elt F) L) rfl hin)) hT).trans (payload_eq G L r _ hin))))
  iexact Hfl

/-- A write-out and its wait: the result's block ends at `G` when the copy leaves `G` there; the buffer comes back. -/
theorem wp_writeOut (b : Memref sig .scVector .vmem S128x128 .f32) (hb : b.IsWhole) (o : Memref sig .scVector .hbm S32768x128 .f32)
    (s : DmaSems sig S_) (r : Fin 8) (w : Buf (Elt F) (b.view.loc (thr d i))) (fd G : Buf (Elt F) ((block o i r).view.loc (thr d i)))
    (hG : ∀ y ∈ (block o i r).view.set, (block o i r).view.write (Elt F) fd (b.view.read (Elt F) w) Finset.univ y = G y)
    (k : PUnit → TileProg F i) :
    iprop((b.view.loc (thr d i) ↦{fullShare} w) ∗ ((block o i r).view.loc (thr d i) ↦[(block o i r).view.set]{fullShare} fd)
        ∗ semVal (thr d i, SemLoc.dma s.sem) 0 ∗ owed d i O W ∗ Transfers.MayWaits (thr d i) (default : HIx 1) O)
      ⊢ iprop((iprop((b.view.loc (thr d i) ↦{fullShare} w) ∗ ((block o i r).view.loc (thr d i) ↦[(block o i r).view.set]{fullShare} G)
            ∗ semVal (thr d i, SemLoc.dma s.sem) 0 ∗ owed d i O W)
            -∗ wp frame (wpE (defs₀ (F := F)) Variants.none (thr d i) none) Set.univ (k ⟨⟩) Q)
          -∗ wp frame (wpE (defs₀ (F := F)) Variants.none (thr d i) none) Set.univ (writeOut i b hb o s r >>= k) Q) := by
  iintro ⟨Hb, Ho, Hv, HO, Hmw⟩ Hk
  iapply (Transfers.wp_dmaFromWhole countersEmb Variants.none (thr d i) none (default : HIx 1) (block o i r).view.dmaCredit rfl
    (View.dmaCredit_pos _ (by decide)) (Finset.Subset.refl _)) $$ [Hb Ho Hv]
  · iframe Hb Ho Hv
  iintro Hfl
  iapply (wp_wait d i rfl) $$ [Hfl HO Hmw]
  · iframe Hfl HO Hmw
  iintro ⟨⟨Ho, Hb⟩, Hv, HO⟩
  iapply Hk
  isplitl [Hb]; · iexact Hb
  isplitl [Ho]; · iapply (Entails.of_eq (pointsTo_congr hG)); iexact Ho
  isplitl [Hv]; · iexact Hv
  iexact HO

/-! ## One chunk -/

variable (q : PosShare TreeShare) (Tc Ts : S8192x128.Idx → Elt F .f32) (I : S32x8x128.Idx → BitVec 32)

/-- What a chunk uses and hands back: the fetched row numbers, the two buffers at any contents, a share of each table, the
    gathers' semaphores at zero, and what the tile owes. -/
def lent (d : Dev nD) (i : grid0.Coords) (O : CellTallies nD τ sig (HIx 1)) (W : Waits sig (HIx 1)) (q : PosShare TreeShare)
    (Tc Ts : S8192x128.Idx → Elt F .f32) (I : S32x8x128.Idx → BitVec 32) : sProp 𝕄 :=
  iprop((mList.view.loc (thr d i) ↦{fullShare} Rows.listsOf I (tileOf i)) ∗ (∃ w, mCbuf.view.loc (thr d i) ↦{fullShare} w)
    ∗ (∃ w, mSbuf.view.loc (thr d i) ↦{fullShare} w) ∗ (mCos.view.loc (thr d i) ↦{q} Tc) ∗ (mSin.view.loc (thr d i) ↦{q} Ts)
    ∗ semVal (thr d i, SemLoc.dma cc0_scratch3.sem) 0 ∗ semVal (thr d i, SemLoc.dma cc0_scratch4.sem) 0 ∗ owed d i O W)

/-- What belongs to chunk `r` alone: its block of each result, and its two write-outs' semaphores at zero. -/
def own (d : Dev nD) (i : grid0.Coords) (gc gs : S32768x128.Idx → Elt F .f32) (r : Fin 8) : sProp 𝕄 :=
  iprop(((block mOutC i r).view.loc (thr d i) ↦[(block mOutC i r).view.set]{fullShare} gc)
    ∗ ((block mOutS i r).view.loc (thr d i) ↦[(block mOutS i r).view.set]{fullShare} gs)
    ∗ semVal (thr d i, SemLoc.dma (outSemC r).sem) 0 ∗ semVal (thr d i, SemLoc.dma (outSemS r).sem) 0)

/-- A chunk followed by anything, in one line. -/
theorem chunk_bind (r : Fin 8) (k : PUnit → TileProg F i) :
    (chunk i r >>= k : TileProg F i) = startGather i mCos mCbuf cc0_scratch3 r >>= fun _ => startGather i mSin mSbuf cc0_scratch4 r >>= fun _ =>
      .op (.waitDma2 cc0_scratch3.sem (allOf mCos) mCbuf (View.wordExact_bits rfl) (Memref.isWhole_whole _).wordExact) fun _ =>
      .op (.waitDma2 cc0_scratch4.sem (allOf mSin) mSbuf (View.wordExact_bits rfl) (Memref.isWhole_whole _).wordExact) fun _ =>
      writeOut i mCbuf (Memref.isWhole_whole _) mOutC (outSemC r) r >>= fun _ =>
      writeOut i mSbuf (Memref.isWhole_whole _) mOutS (outSemS r) r >>= k := rfl

/-- One chunk leaves the named rows of both tables in its blocks of the results. -/
theorem wp_chunk (hI : ∀ x, (I x).toNat < 8192) (fc fs : S32768x128.Idx → Elt F .f32) (r : Fin 8) (k : PUnit → TileProg F i) :
    iprop(lent d i O W q Tc Ts I ∗ own d i fc fs r ∗ Transfers.MayWaits (thr d i) (default : HIx 1) O)
      ⊢ iprop((iprop(lent d i O W q Tc Ts I ∗ own d i (Rows.gathered Tc I) (Rows.gathered Ts I) r)
            -∗ wp frame (wpE (defs₀ (F := F)) Variants.none (thr d i) none) Set.univ (k ⟨⟩) Q)
          -∗ wp frame (wpE (defs₀ (F := F)) Variants.none (thr d i) none) Set.univ (chunk i r >>= k) Q) := by
  rw [chunk_bind]
  unfold lent own
  iintro ⟨⟨Hl, ⟨%wc, Hc⟩, ⟨%ws, Hs⟩, Htc, Hts, Hv3, Hv4, HO⟩, ⟨Hoc, Hos, Hvc, Hvs⟩, #Hmw⟩ Hk
  ihave Hl2 := (pointsTo_share (PosShare.mem_left_op_right fullShare)).1 $$ Hl
  icases Hl2 with ⟨Hl1, Hl2⟩
  iapply (wp_startGather d i mCos mCbuf cc0_scratch3 r Tc wc (Rows.listsOf I (tileOf i)) Tc (read_allOf_cos Tc) (fun _ => hI _) (by decide) _) $$ [Htc Hc Hl1 Hv3]
  · iframe Htc Hc Hl1 Hv3
  iintro Hf1
  iapply (wp_startGather d i mSin mSbuf cc0_scratch4 r Ts ws (Rows.listsOf I (tileOf i)) Ts (read_allOf_sin Ts) (fun _ => hI _) (by decide) _) $$ [Hts Hs Hl2 Hv4]
  · iframe Hts Hs Hl2 Hv4
  iintro Hf2
  iapply (wp_wait d i rfl _) $$ [Hf1 HO]
  · iframe Hf1 HO Hmw
  iintro ⟨⟨⟨%wc', %hwc, Hc⟩, Htc, Hl1⟩, Hv3, HO⟩
  iapply (wp_wait d i rfl _) $$ [Hf2 HO]
  · iframe Hf2 HO Hmw
  iintro ⟨⟨⟨%ws', %hws, Hs⟩, Hts, Hl2⟩, Hv4, HO⟩
  ihave Hl := (pointsTo_share (PosShare.mem_left_op_right fullShare)).2 $$ [Hl1 Hl2]
  · isplitl [Hl1] <;> iassumption
  iapply (wp_writeOut d i mCbuf (Memref.isWhole_whole _) mOutC (outSemC r) r wc' fc (Rows.gathered Tc I)
    (block_write mOutC i r fc _ _ ((block_value i r Tc I).trans hwc.symm)) _) $$ [Hc Hoc Hvc HO]
  · iframe Hc Hoc Hvc HO Hmw
  iintro ⟨Hc, Hoc, Hvc, HO⟩
  iapply (wp_writeOut d i mSbuf (Memref.isWhole_whole _) mOutS (outSemS r) r ws' fs (Rows.gathered Ts I)
    (block_write mOutS i r fs _ _ ((block_value i r Ts I).trans hws.symm)) _) $$ [Hs Hos Hvs HO]
  · iframe Hs Hos Hvs HO Hmw
  iintro ⟨Hs, Hos, Hvs, HO⟩
  iapply Hk
  isplitl [Hl Hc Hs Htc Hts Hv3 Hv4 HO]
  · isplitl [Hl]; · iexact Hl
    isplitl [Hc]; · iexists _; iexact Hc
    isplitl [Hs]; · iexists _; iexact Hs
    iframe Htc Hts Hv3 Hv4 HO
  iframe Hoc Hos Hvc Hvs

end

end Cert.KernelIdeal.Run

end
-- ==== Proof.KernelIdeal.Task.lean ====
/-
  The task on one tile: the fetch of its row numbers, then its eight chunks. It starts from the row numbers, shares of both
  tables and the tile's blocks of both results, and ends with the blocks at the rows that the row numbers name.
-/
module

public import proofs.«01_k».proof.Proof.KernelIdeal.Chunk
public import Idealize.ShloMosaic.Lib.ValueLayout
public import Idealize.ShloMosaic.Lib.Pipeline.BigSepL

@[expose] public section

noncomputable section

namespace Cert.KernelIdeal.Run

open Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The plane a tile fetches is its own lists. -/
theorem read_plane (i : grid0.Coords) (I : S32x8x128.Idx → BitVec 32) : (plane i).view.read (Elt F) I = Rows.listsOf I (tileOf i) := by
  funext x
  have e : (plane i).view.emb x = ix3 (tileOf i) (x 0) (x 1) := by
    show (Rect.unit (s := S32x8x128) (k0_off1 i) S1x8x128.size (k0_off1_inb i)).emb (Shape.reshapeEquiv squeezes_S1x8x128_S8x128.numel_eq x) = _
    rw [show Shape.reshapeEquiv squeezes_S1x8x128_S8x128.numel_eq x = (ix3 (0 : Fin 1) (x 0) (x 1) : S1x8x128.Idx) from
      (congrArg _ (eq_ix2 x)).trans (reshapeEquiv_ix2_1ab _ _ _)]
    funext a
    apply Fin.ext
    match a with
    | ⟨0, _⟩ => simp [Rect.emb_apply, k0_off1_eq]; rfl
    | ⟨1, _⟩ => simp [Rect.emb_apply, k0_off1_eq]
    | ⟨2, _⟩ => simp [Rect.emb_apply, k0_off1_eq]
  rw [View.read_apply, e]; rfl

variable [FloatOps F]
variable (d : Dev nD) (i : grid0.Coords) {Q : PUnit → sProp (MT nD τ sig (HIx 1) (Elt F) ℕ UU ℕ)} {O : CellTallies nD τ sig (HIx 1)}
  {W : Waits sig (HIx 1)}

/-- The fetch and its wait: the tile's list buffer at its lists. -/
theorem wp_fetch {q : PosShare TreeShare} (I : S32x8x128.Idx → BitVec 32) (w : S8x128.Idx → BitVec 32) (k : PUnit → TileProg F i) :
    iprop((mIdx.view.loc (thr d i) ↦{q} I) ∗ (mList.view.loc (thr d i) ↦{fullShare} w) ∗ semVal (thr d i, SemLoc.dma cc0_scoped0.sem) 0
        ∗ owed d i O W ∗ Transfers.MayWaits (thr d i) (default : HIx 1) O)
      ⊢ iprop((iprop((mIdx.view.loc (thr d i) ↦{q} I) ∗ (mList.view.loc (thr d i) ↦{fullShare} Rows.listsOf I (tileOf i))
            ∗ semVal (thr d i, SemLoc.dma cc0_scoped0.sem) 0 ∗ owed d i O W)
            -∗ wp frame (wpE (defs₀ (F := F)) Variants.none (thr d i) none) Set.univ (k ⟨⟩) Q)
          -∗ wp frame (wpE (defs₀ (F := F)) Variants.none (thr d i) none) Set.univ (fetch i >>= k) Q) := by
  iintro ⟨Hi, Hl, Hv, HO, Hmw⟩ Hk
  iapply (Transfers.wp_dmaFromWhole countersEmb Variants.none (thr d i) none (src := plane i) (dst := mList) (fs := I) (fd := w)
    (default : HIx 1) mList.view.dmaCredit rfl (View.dmaCredit_pos _ (by decide)) (Finset.subset_univ _)) $$ [Hi Hl Hv]
  · iframe Hi Hl Hv
  iintro Hfl
  iapply (wp_wait d i rfl _) $$ [Hfl HO Hmw]
  · iframe Hfl HO Hmw
  iintro ⟨⟨Hl, Hi⟩, Hv, HO⟩
  iapply Hk
  isplitl [Hi]; · iexact Hi
  isplitl [Hl]
  · rw [View.write_whole_univ]
    iapply (Entails.of_eq (congrArg (fun z => (mList.view.loc (thr d i) ↦{fullShare} z : sProp 𝕄)) (read_plane (F := F) i I)))
    iexact Hl
  iframe Hv HO

/-- Chunks in order: each leaves the named rows in its own blocks. -/
theorem wp_chunks (q : PosShare TreeShare) (Tc Ts : S8192x128.Idx → Elt F .f32) (I : S32x8x128.Idx → BitVec 32) (hI : ∀ x, (I x).toNat < 8192)
    (fc fs : S32768x128.Idx → Elt F .f32) : ∀ rs : List (Fin 8),
    iprop(lent d i O W q Tc Ts I ∗ bigSepL rs (own d i fc fs) ∗ Transfers.MayWaits (thr d i) (default : HIx 1) O)
      ⊢ wp frame (wpE (defs₀ (F := F)) Variants.none (thr d i) none) Set.univ (chunks i rs)
          fun _ => iprop(lent d i O W q Tc Ts I ∗ bigSepL rs (own d i (Rows.gathered Tc I) (Rows.gathered Ts I)))
  | [] => by
    rw [show chunks (F := F) i [] = pure ⟨⟩ from rfl, wp_pure]
    iintro ⟨Hh, Ho, -⟩
    imodintro
    isplitl [Hh]; · iexact Hh
    iexact Ho
  | r :: rs => by
    rw [show chunks (F := F) i (r :: rs) = (chunk i r >>= fun _ => chunks i rs) from rfl, bigSepL_cons', bigSepL_cons']
    iintro ⟨Hh, ⟨Hr, Ho⟩, #Hmw⟩
    iapply (wp_chunk d i q Tc Ts I hI fc fs r _) $$ [Hh Hr]
    · iframe Hh Hr Hmw
    iintro ⟨Hh, Hr⟩
    ihave Hw := (wp_chunks q Tc Ts I hI fc fs rs) $$ [Hh Ho]
    · iframe Hh Ho Hmw
    iapply (wp_wand frame _ _) $$ Hw
    iintro %_ ⟨Hh, Ho⟩
    iframe Hh Hr Ho

/-! ## The launch's view of the program -/

abbrev ΛP : Labels := Pipeline.Sig Λ₀ (Fin 0) fun p => (pcfgs (F := F) p).Adm
abbrev K : SparseCore.Cfg τ sig (ΛP (F := F)) 1 := sc (F := F)

/-! ## The tile's own semaphores and buffers -/

/-- The semaphores the task uses: the two gathers' and the fetch's, and each chunk's two write-outs'. -/
def usedSem : Fin 3 ⊕ (Fin 8 ⊕ Fin 8) → DmaSem sig :=
  Sum.elim ![cc0_scratch3.sem, cc0_scratch4.sem, cc0_scoped0.sem] (Sum.elim (fun r => (outSemC r).sem) fun r => (outSemS r).sem)

/-- They are different semaphores. -/
theorem usedSem_injective : Function.Injective usedSem := by decide

/-- Each is a tile's own. -/
theorem usedSem_scoped : ∀ x, (SemLoc.dma (usedSem x) : SemLoc sig).isScoped .scVector = true := by decide

/-- The used semaphores as the tile's cells. -/
def usedCells (t : Thread nD τ) : Finset (GSem nD τ sig) :=
  Finset.univ.image fun x => ((t, SemLoc.dma (usedSem x)) : GSem nD τ sig)

omit [FloatOps F] in
/-- A tile's semaphores at zero are those it uses at zero, and the rest. -/
theorem sems_split :
    (SparseCore.Cfg.ownSems0 (thr d i) : sProp 𝕄)
      = iprop(((semVal (thr d i, SemLoc.dma cc0_scratch3.sem) 0 ∗ semVal (thr d i, SemLoc.dma cc0_scratch4.sem) 0
            ∗ semVal (thr d i, SemLoc.dma cc0_scoped0.sem) 0)
          ∗ (bigSep Finset.univ fun r : Fin 8 => semVal (thr d i, SemLoc.dma (outSemC r).sem) 0)
          ∗ bigSep Finset.univ fun r : Fin 8 => semVal (thr d i, SemLoc.dma (outSemS r).sem) 0)
        ∗ bigSep (SparseCore.Cfg.ownCells (thr d i) \ usedCells (thr d i)) fun g => semVal g 0) := by
  have hsub : usedCells (thr d i) ⊆ SparseCore.Cfg.ownCells (thr d i) := by
    intro g hg
    obtain ⟨x, -, rfl⟩ := Finset.mem_image.mp hg
    exact SparseCore.Cfg.mem_ownCells.mpr ⟨rfl, usedSem_scoped x⟩
  unfold SparseCore.Cfg.ownSems0
  refine (SparseCore.bigSep_sdiff_split' hsub).trans (congrArg (fun z => iprop(z ∗ bigSep (SparseCore.Cfg.ownCells (thr d i) \ usedCells (thr d i)) fun g => semVal g 0)) ?_)
  have hinj : Set.InjOn (fun x => ((thr d i, SemLoc.dma (usedSem x)) : GSem nD τ sig)) (Finset.univ : Finset (Fin 3 ⊕ (Fin 8 ⊕ Fin 8))) :=
    fun a _ b _ h => usedSem_injective (SemLoc.dma.inj (congrArg Prod.snd h))
  unfold usedCells
  rw [SparseCore.bigSep_image_of_injOn hinj, bigSep_univ_sum, bigSep_univ_sum, bigSep_univ_eq_bigSepL ([0, 1, 2] : List (Fin 3)) (by decide) (by decide)]
  rfl

omit [FloatOps F] in
/-- A tile's buffers are its list buffer and its two chunk buffers, at some contents, and the rest. -/
theorem bufs_split :
    (SparseCore.Cfg.ownBufs (thr d i) : sProp 𝕄)
      = iprop((∃ f, mList.view.loc (thr d i) ↦{fullShare} f) ∗ (∃ f, mCbuf.view.loc (thr d i) ↦{fullShare} f)
          ∗ (∃ f, mSbuf.view.loc (thr d i) ↦{fullShare} f)
          ∗ bigSep ((((SparseCore.Cfg.ownRefs (τ := τ) (thr d i).2).erase ((thr d i).2.devRef cc0_scratch0)).erase ((thr d i).2.devRef cc0_scratch1)).erase
              ((thr d i).2.devRef cc0_scratch2))
              fun b => iprop(∃ f, ((d, b) : Loc nD τ sig) ↦{fullShare} f)) := by
  have ne : ∀ {a b : Ref sig .scVector}, a ≠ b → (thr d i).2.devRef a ≠ (thr d i).2.devRef b := fun h e => h (Proc.devRef_injective _ e)
  unfold SparseCore.Cfg.ownBufs
  refine (SparseCore.bigSep_erase' (SparseCore.Cfg.mem_ownRefs_of_owner (p := (thr d i).2) (b := (thr d i).2.devRef cc0_scratch0) rfl)).trans ?_
  rw [SparseCore.bigSep_erase' (Finset.mem_erase.mpr ⟨ne (show (cc0_scratch1 : Ref sig .scVector) ≠ cc0_scratch0 by decide),
      SparseCore.Cfg.mem_ownRefs_of_owner (p := (thr d i).2) (b := (thr d i).2.devRef cc0_scratch1) rfl⟩),
    SparseCore.bigSep_erase' (Finset.mem_erase.mpr ⟨ne (show (cc0_scratch2 : Ref sig .scVector) ≠ cc0_scratch1 by decide),
      Finset.mem_erase.mpr ⟨ne (show (cc0_scratch2 : Ref sig .scVector) ≠ cc0_scratch0 by decide),
        SparseCore.Cfg.mem_ownRefs_of_owner (p := (thr d i).2) (b := (thr d i).2.devRef cc0_scratch2) rfl⟩⟩)]

/-! ## The whole task -/

/-- What a task is given and gives back: a share of the row numbers and of both tables, and its eight blocks of each result. -/
def piece (d : Dev nD) (i : grid0.Coords) (q : PosShare TreeShare) (I : S32x8x128.Idx → BitVec 32) (Tc Ts : S8192x128.Idx → Elt F .f32)
    (gc gs : S32768x128.Idx → Elt F .f32) : sProp 𝕄 :=
  iprop((mIdx.view.loc (thr d i) ↦{q} I) ∗ (mCos.view.loc (thr d i) ↦{q} Tc) ∗ (mSin.view.loc (thr d i) ↦{q} Ts)
    ∗ (bigSep Finset.univ fun r : Fin 8 => (block mOutC i r).view.loc (thr d i) ↦[(block mOutC i r).view.set]{fullShare} gc)
    ∗ bigSep Finset.univ fun r : Fin 8 => (block mOutS i r).view.loc (thr d i) ↦[(block mOutS i r).view.set]{fullShare} gs)

omit [FloatOps F] in
/-- What the eight chunks own, kind by kind. -/
theorem owns_eq (gc gs : S32768x128.Idx → Elt F .f32) :
    (bigSepL [0, 1, 2, 3, 4, 5, 6, 7] (own d i gc gs) : sProp 𝕄)
      = iprop((bigSep Finset.univ fun r : Fin 8 => (block mOutC i r).view.loc (thr d i) ↦[(block mOutC i r).view.set]{fullShare} gc)
        ∗ (bigSep Finset.univ fun r : Fin 8 => (block mOutS i r).view.loc (thr d i) ↦[(block mOutS i r).view.set]{fullShare} gs)
        ∗ (bigSep Finset.univ fun r : Fin 8 => semVal (thr d i, SemLoc.dma (outSemC r).sem) 0)
        ∗ bigSep Finset.univ fun r : Fin 8 => semVal (thr d i, SemLoc.dma (outSemS r).sem) 0) := by
  rw [← bigSep_univ_eq_bigSepL [0, 1, 2, 3, 4, 5, 6, 7] (by decide) (by decide)]
  unfold own
  rw [bigSep_sep', bigSep_sep', bigSep_sep']

/-- The task: it keeps its shares, and leaves the named rows in its blocks. -/
theorem wp_task (hF : (K (F := F)).Facts) (q : PosShare TreeShare) (I : S32x8x128.Idx → BitVec 32) (Tc Ts : S8192x128.Idx → Elt F .f32)
    (fc fs : S32768x128.Idx → Elt F .f32) (hI : ∀ x, (I x).toNat < 8192) (hO : ∀ g, O g none = 0) :
    iprop(levAts (K (F := F)).L (K (F := F)).lev ∗ emp ∗ piece d i q I Tc Ts fc fs
        ∗ scopedBufs (thr d i) ∗ scopedSems0 (thr d i) ∗ owes (thr d i) O W)
      ⊢ wp frame (wpE (defs₀ (F := F)) Variants.none (thr d i) none) Set.univ (task i)
          fun _ => iprop(piece d i q I Tc Ts (Rows.gathered Tc I) (Rows.gathered Ts I)
            ∗ scopedBufs (thr d i) ∗ scopedSems0 (thr d i) ∗ owed d i O W) := by
  rw [task_eq, (K (F := F)).scopedBufs_V hF d ((i 0).castLE hcore0) ((i 1).castLE hsub0),
    SparseCore.Cfg.scopedSems0_V (Val := Elt F) d ((i 0).castLE hcore0) ((i 1).castLE hsub0), sems_split, bufs_split]
  unfold piece
  iintro ⟨#Hlv, -, ⟨Hi, Htc, Hts, Hoc, Hos⟩, ⟨⟨%wl, Hl⟩, Hc, Hs, Hbufs⟩, ⟨⟨⟨Hv3, Hv4, Hv0⟩, Hvc, Hvs⟩, Hsems⟩, HO⟩
  ihave #Hmw := (show levAts (K (F := F)).L (K (F := F)).lev ⊢ Transfers.MayWaits (thr d i) (default : HIx 1) O from
    (K (F := F)).mayWaits_none (thr := thr d i) hO) $$ Hlv
  iapply (wp_fetch d i I wl _) $$ [Hi Hl Hv0 HO]
  · iframe Hi Hl Hv0 Hmw
    rw [owed_def]; iexists W; iframe HO
    ipureintro; exact fun p hp => .inl hp
  iintro ⟨Hi, Hl, Hv0, HO⟩
  ihave Hown := (Entails.of_eq (owns_eq d i fc fs).symm) $$ [Hoc Hos Hvc Hvs]
  · iframe Hoc Hos Hvc Hvs
  ihave Hw := (wp_chunks d i q Tc Ts I hI fc fs [0, 1, 2, 3, 4, 5, 6, 7]) $$ [Hl Hc Hs Htc Hts Hv3 Hv4 HO Hown]
  · isplitr [Hown]
    · unfold lent; iframe Hl Hc Hs Htc Hts Hv3 Hv4 HO
    iframe Hown Hmw
  iapply (wp_wand frame _ _) $$ Hw
  iintro %_ ⟨Hh, Hown⟩
  ihave Hown' := (Entails.of_eq (owns_eq d i _ _)) $$ Hown
  icases Hown' with ⟨Hoc, Hos, Hvc, Hvs⟩
  ihave Hh' := (Entails.of_eq (show lent d i O W q Tc Ts I = _ from by unfold lent; rfl)) $$ Hh
  icases Hh' with ⟨Hl, Hc, Hs, Htc, Hts, Hv3, Hv4, HO⟩
  isplitl [Hi Htc Hts Hoc Hos]
  · iframe Hi Htc Hts Hoc Hos
  isplitl [Hl Hc Hs Hbufs]
  · isplitl [Hl]; · iexists _; iexact Hl
    iframe Hc Hs Hbufs
  isplitl [Hv3 Hv4 Hv0 Hvc Hvs Hsems]
  · iframe Hv3 Hv4 Hv0 Hvc Hvs Hsems
  iexact HO

end Cert.KernelIdeal.Run

end
-- ==== Proof.KernelIdeal.Split.lean ====
/-
  How the arrays are dealt to the 32 tiles: the row numbers and the two tables in 32 equal shares, each result in 32 times 8
  blocks of 128 rows.
-/
module

public import proofs.«01_k».proof.Proof.KernelIdeal.Task

@[expose] public section

noncomputable section

namespace Cert.KernelIdeal.Run

open Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- A buffer of main memory, as @main names it. -/
abbrev buf (d : Dev nD) (b : Ref sig .tc) : Loc nD τ sig := (SparseCore.T d).loc b

/-- The coordinates of the tile on core `c` and subcore `s`. -/
def coords (c : Fin 2) (s : Fin 16) : grid0.Coords :=
  fun | 0 => c | 1 => s | ⟨_ + 2, h⟩ => absurd h (Nat.not_lt.2 (Nat.le_add_left _ _))

/-- That tile's share of what every tile reads. -/
def share (c : Fin 2) (s : Fin 16) : PosShare TreeShare :=
  pieceOf (pieceOf fullShare 2 (by decide) c) 16 (by decide) s

/-- The elements of a result that chunk `r` of that tile fills. -/
def blockSet (p : Fin 2 × Fin 16 × Fin 8) : Finset S32768x128.Idx :=
  (Rect.unit (s := S32768x128) (k0_off2 (coords p.1 p.2.1) (BitVec.ofNat 32 (128 * p.2.2.val))) S128x128.size (k0_off2_inb _ p.2.2)).set

/-- They are its 128 rows. -/
theorem mem_blockSet (p : Fin 2 × Fin 16 × Fin 8) (y : S32768x128.Idx) :
    y ∈ blockSet p ↔ 2048 * p.2.1.val + 1024 * p.1.val + 128 * p.2.2.val ≤ (y 0).val
      ∧ (y 0).val < 2048 * p.2.1.val + 1024 * p.1.val + 128 * p.2.2.val + 128 := by
  have h1 : (y 1).val < 128 := idx2_lt1 y
  unfold blockSet
  rw [Rect.mem_set_unit]
  constructor
  · intro h
    have h0 := h 0
    rw [k0_off2_eq] at h0
    exact h0
  · intro h a
    rw [k0_off2_eq]
    match a with
    | ⟨0, _⟩ => exact h
    | ⟨1, _⟩ => exact ⟨Nat.zero_le _, by show (y 1).val < 0 + 128; omega⟩

theorem blockSet_disjoint : ∀ p ∈ (Finset.univ : Finset (Fin 2 × Fin 16 × Fin 8)), ∀ p' ∈ (Finset.univ : Finset (Fin 2 × Fin 16 × Fin 8)),
    p ≠ p' → Disjoint (blockSet p) (blockSet p') := by
  rintro ⟨c, s, r⟩ - ⟨c', s', r'⟩ - hne
  refine Finset.disjoint_left.mpr fun y hy hy' => hne ?_
  rw [mem_blockSet] at hy hy'
  obtain ⟨c, hc⟩ := c; obtain ⟨s, hs⟩ := s; obtain ⟨r, hr⟩ := r
  obtain ⟨c', hc'⟩ := c'; obtain ⟨s', hs'⟩ := s'; obtain ⟨r', hr'⟩ := r'
  simp only at hy hy'
  have e1 : s = s' := by omega
  have e2 : c = c' := by omega
  have e3 : r = r' := by omega
  subst e1 e2 e3; rfl

theorem blockSet_cover : (Finset.univ : Finset (Fin 2 × Fin 16 × Fin 8)).biUnion blockSet = Finset.univ := by
  ext y
  have h0 : (y 0).val < 32768 := idx2_lt0 y
  simp only [Finset.mem_biUnion, Finset.mem_univ, true_and, iff_true]
  refine ⟨(⟨(y 0).val / 1024 % 2, by omega⟩, ⟨(y 0).val / 2048, by omega⟩, ⟨(y 0).val / 128 % 8, by omega⟩), ?_⟩
  rw [mem_blockSet]
  simp only
  omega

/-- An array every tile reads is its 32 shares. -/
theorem shares_eq {ℓ : Loc nD τ sig} (f : Buf (Elt F) ℓ) :
    (ℓ ↦{fullShare} f : sProp 𝕄) = bigSep Finset.univ fun c : Fin 2 => bigSep Finset.univ fun s : Fin 16 => ℓ ↦{share c s} f := by
  rw [pointsTo_piecesOf Finset.univ f (o := 2) (by decide) fullShare]
  exact bigSep_congr fun c _ => pointsTo_piecesOf Finset.univ f (o := 16) (by decide) _

variable (d : Dev nD)

/-- The block's elements, as the task addresses them. -/
theorem set_blockC (c : Fin 2) (s : Fin 16) (r : Fin 8) : (block mOutC (coords c s) r).view.set = blockSet (c, s, r) := by
  show ((View.whole main_v1_0_scv).slice _).set = _
  rw [View.set_slice]; exact Finset.map_refl
theorem set_blockS (c : Fin 2) (s : Fin 16) (r : Fin 8) : (block mOutS (coords c s) r).view.set = blockSet (c, s, r) := by
  show ((View.whole main_v1_1_scv).slice _).set = _
  rw [View.set_slice]; exact Finset.map_refl

/-- A result is all the tiles' blocks. -/
theorem blocksC_eq (g : S32768x128.Idx → Elt F .f32) :
    (buf d main_v1_0 ↦{fullShare} g : sProp 𝕄) = bigSep Finset.univ fun c : Fin 2 => bigSep Finset.univ fun s : Fin 16 =>
      bigSep Finset.univ fun r : Fin 8 => (block mOutC (coords c s) r).view.loc (thr d (coords c s)) ↦[(block mOutC (coords c s) r).view.set]{fullShare} g := by
  have h := pointsTo_biUnion (Val := Elt F) (ℓ := buf d main_v1_0) (q := fullShare) (f := g) (Ix := HIx 1) (Name := ℕ) (U := UU) (Lvl := ℕ)
    Finset.univ blockSet blockSet_disjoint
  rw [blockSet_cover, ← Finset.univ_product_univ, SparseCore.bigSep_product] at h
  refine h.trans (bigSep_congr fun c _ => ?_)
  rw [← Finset.univ_product_univ, SparseCore.bigSep_product]
  refine bigSep_congr fun s _ => bigSep_congr fun r _ => ?_
  rw [set_blockC]
theorem blocksS_eq (g : S32768x128.Idx → Elt F .f32) :
    (buf d main_v1_1 ↦{fullShare} g : sProp 𝕄) = bigSep Finset.univ fun c : Fin 2 => bigSep Finset.univ fun s : Fin 16 =>
      bigSep Finset.univ fun r : Fin 8 => (block mOutS (coords c s) r).view.loc (thr d (coords c s)) ↦[(block mOutS (coords c s) r).view.set]{fullShare} g := by
  have h := pointsTo_biUnion (Val := Elt F) (ℓ := buf d main_v1_1) (q := fullShare) (f := g) (Ix := HIx 1) (Name := ℕ) (U := UU) (Lvl := ℕ)
    Finset.univ blockSet blockSet_disjoint
  rw [blockSet_cover, ← Finset.univ_product_univ, SparseCore.bigSep_product] at h
  refine h.trans (bigSep_congr fun c _ => ?_)
  rw [← Finset.univ_product_univ, SparseCore.bigSep_product]
  refine bigSep_congr fun s _ => bigSep_congr fun r _ => ?_
  rw [set_blockS]

/-- The five arrays of the call are what its 32 tasks take. -/
theorem pieces_eq (I : S32x8x128.Idx → BitVec 32) (Tc Ts : S8192x128.Idx → Elt F .f32) (gc gs : S32768x128.Idx → Elt F .f32) :
    (iprop((buf d main_v0 ↦{fullShare} I) ∗ (buf d main_arg1 ↦{fullShare} Tc)
        ∗ (buf d main_arg2 ↦{fullShare} Ts) ∗ (buf d main_v1_0 ↦{fullShare} gc)
        ∗ (buf d main_v1_1 ↦{fullShare} gs)) : sProp 𝕄)
      = bigSep Finset.univ fun c : Fin 2 => bigSep Finset.univ fun s : Fin 16 => piece d (coords c s) (share c s) I Tc Ts gc gs := by
  unfold piece
  simp only [bigSep_sep']
  rw [← blocksC_eq, ← blocksS_eq, shares_eq (ℓ := buf d main_v0) I, shares_eq (ℓ := buf d main_arg1) Tc,
    shares_eq (ℓ := buf d main_arg2) Ts]

end Cert.KernelIdeal.Run

end
-- ==== Proof.KernelIdeal.Launch.lean ====
/-
  The launch: what the call hands to the two SparseCores and their tiles and gets back, each tile's obligation, and the state the
  handshakes start from. @main and the run are in Main.lean.
-/
module

public import proofs.«01_k».proof.Proof.KernelIdeal.Split
public import Idealize.ShloMosaic.Lib.StableHlo.Run
public import Idealize.ShloMosaic.Lib.Pipeline.Kit

@[expose] public section

noncomputable section

namespace Cert.KernelIdeal.Run

open Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The launch's set-up -/

theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

variable (m : (ℓ : Loc nD τ sig) → Buf (Elt F) ℓ) (ρ : Dev nD → PrngReg)

/-! ## The arrays -/

/-- The row numbers as the call takes them: the positions regrouped. -/
def numbers (d : Dev nD) : S32x8x128.Idx → BitVec 32 :=
  shapeCast S32x8x128 (m (buf d main_arg0) : S4x8192.Idx → BitVec 32) shapeCasts_S4x8192_S32x8x128

/-- The call's two results. -/
def rowsC (d : Dev nD) : S32768x128.Idx → Elt F .f32 := Rows.gathered (m (buf d main_arg1)) (numbers m d)
def rowsS (d : Dev nD) : S32768x128.Idx → Elt F .f32 := Rows.gathered (m (buf d main_arg2)) (numbers m d)

/-- @main's two results. -/
def resultC (d : Dev nD) : S4x8192x128.Idx → Elt F .f32 := shapeCast S4x8192x128 (rowsC m d) shapeCasts_S32768x128_S4x8192x128
def resultS (d : Dev nD) : S4x8192x128.Idx → Elt F .f32 := shapeCast S4x8192x128 (rowsS m d) shapeCasts_S32768x128_S4x8192x128

/-- What the proof asks of the launch memory: every position is a row of the tables. -/
def InRange : Prop := ∀ (d : Dev nD) (j : S4x8192.Idx), ((m (buf d main_arg0) : S4x8192.Idx → BitVec 32) j).toNat < 8192

omit ρ in
theorem numbers_lt (h : InRange m) (d : Dev nD) (x : S32x8x128.Idx) : (numbers m d x).toNat < 8192 := h d _

/-! ## What the handshakes carry -/

/-- What a task takes: its shares, and its blocks of both results at their launch contents. -/
def taskIn (d : Dev nD) (c : Fin 2) (s : Fin 16) : sProp 𝕄 :=
  piece d (coords c s) (share c s) (numbers m d) (m (buf d main_arg1)) (m (buf d main_arg2)) (m (buf d main_v1_0)) (m (buf d main_v1_1))

/-- What a task brings back: its shares, and its blocks at the named rows. -/
def taskOut (d : Dev nD) (c : Fin 2) (s : Fin 16) : sProp 𝕄 :=
  piece d (coords c s) (share c s) (numbers m d) (m (buf d main_arg1)) (m (buf d main_arg2)) (rowsC m d) (rowsS m d)

instance piece_storable (d : Dev nD) (i : grid0.Coords) (q : PosShare TreeShare) (I : S32x8x128.Idx → BitVec 32) (Tc Ts : S8192x128.Idx → Elt F .f32)
    (gc gs : S32768x128.Idx → Elt F .f32) : BI.Storable (upEmb : UEmb _ 𝕄) (piece d i q I Tc Ts gc gs) := by
  unfold piece; infer_instance

instance taskIn_storable (d : Dev nD) (c : Fin 2) (s : Fin 16) : BI.Storable (upEmb : UEmb _ 𝕄) (taskIn m d c s) := by
  unfold taskIn; infer_instance
instance taskOut_storable (d : Dev nD) (c : Fin 2) (s : Fin 16) : BI.Storable (upEmb : UEmb _ 𝕄) (taskOut m d c s) := by
  unfold taskOut; infer_instance

/-- What a SparseCore takes: what its sixteen tasks take; and what it brings back. -/
def coreIn (d : Dev nD) (c : Fin 2) : sProp 𝕄 := bigSep Finset.univ fun s : Fin 16 => taskIn m d c s
def coreOut (d : Dev nD) (c : Fin 2) : sProp 𝕄 := bigSep Finset.univ fun s : Fin 16 => taskOut m d c s

instance coreIn_storable (d : Dev nD) (c : Fin 2) : BI.Storable (upEmb : UEmb _ 𝕄) (coreIn m d c) := by
  unfold coreIn; infer_instance
instance coreOut_storable (d : Dev nD) (c : Fin 2) : BI.Storable (upEmb : UEmb _ 𝕄) (coreOut m d c) := by
  unfold coreOut; infer_instance

/-- The call hands each SparseCore what its sixteen tasks take, each task its own, and back. -/
def P : (K (F := F)).Pay (nD := nD) (Val := Elt F) (Name := ℕ) (U := UU) where
  st := fun q d c => match q with | 0 => coreIn m d (Fin.cast nCore_zero c)
  dn := fun q d c => match q with | 0 => coreOut m d (Fin.cast nCore_zero c)
  go := fun q d c i => match q with | 0 => taskIn m d (Fin.cast nCore_zero c) (Fin.cast nSub_zero i)
  td := fun q d c i => match q with | 0 => taskOut m d (Fin.cast nCore_zero c) (Fin.cast nSub_zero i)
  x := fun _ _ => iprop(emp)

theorem st_eq (d : Dev nD) (c : Fin ((K (F := F)).nCore 0)) : (P (F := F) m).st 0 d c = coreIn m d (Fin.cast nCore_zero c) := by
  unfold P; dsimp only
theorem dn_eq (d : Dev nD) (c : Fin ((K (F := F)).nCore 0)) : (P (F := F) m).dn 0 d c = coreOut m d (Fin.cast nCore_zero c) := by
  unfold P; dsimp only
theorem go_eq (d : Dev nD) (c : Fin ((K (F := F)).nCore 0)) (i : Fin ((K (F := F)).nSub 0)) :
    (P (F := F) m).go 0 d c i = taskIn m d (Fin.cast nCore_zero c) (Fin.cast nSub_zero i) := by
  unfold P; dsimp only
theorem td_eq (d : Dev nD) (c : Fin ((K (F := F)).nCore 0)) (i : Fin ((K (F := F)).nSub 0)) :
    (P (F := F) m).td 0 d c i = taskOut m d (Fin.cast nCore_zero c) (Fin.cast nSub_zero i) := by
  unfold P; dsimp only

instance P_storable : (P (F := F) m).IsStorable where
  st q d c := by
    obtain rfl : q = 0 := Subsingleton.elim _ _
    rw [st_eq]; infer_instance
  dn q d c := by
    obtain rfl : q = 0 := Subsingleton.elim _ _
    rw [dn_eq]; infer_instance
  go q d c i := by
    obtain rfl : q = 0 := Subsingleton.elim _ _
    rw [go_eq]; infer_instance
  td q d c i := by
    obtain rfl : q = 0 := Subsingleton.elim _ _
    rw [td_eq]; infer_instance

variable [FloatOps F]

/-! ## The tasks' obligation -/

/-- The label's program at a tile is the task at the tile's coordinates. -/
theorem defs₀_vector (c : Fin τ.nSC) (s : Fin τ.nSub) :
    defs₀ (F := F) (.scVector c s) 0 () = SparseCore.onTile hcore0 hsub0 (fun c s => task (coords c s)) ⟨⟩ c s := rfl

/-- A task's waits are its own transfers'. -/
theorem owed_post (d : Dev nD) (i : grid0.Coords) {A B C : sProp 𝕄} {O : CellTallies nD τ sig (HIx 1)} {W : Waits sig (HIx 1)} {q : Fin 1} :
    iprop(A ∗ B ∗ C ∗ owed d i O W)
      ⊢ iprop(A ∗ B ∗ C ∗ ∃ W', ⌜∀ p ∈ W', p ∈ W ∨ p.2 = none ∨ p.2 = some q⌝ ∗ owes (thr d i) O W') := by
  rw [owed_def]
  iintro ⟨HA, HB, HC, %W', %hW', HO⟩
  iframe HA HB HC
  iexists W'
  isplitr
  · ipureintro; exact fun p hp => (hW' p hp).imp_right Or.inl
  iexact HO

/-- The task on the tile of core `c` and subcore `s`, from what the handshake brings it to what it hands back. -/
theorem wp_tile (hF : (K (F := F)).Facts) (hm : InRange m) (d : Dev nD) (c : Fin 2) (s : Fin 16) {O : CellTallies nD τ sig (HIx 1)}
    {W : Waits sig (HIx 1)} (hO : ∀ g, O g none = 0) :
    iprop(levAts (K (F := F)).L (K (F := F)).lev ∗ emp ∗ taskIn m d c s
        ∗ scopedBufs (thr d (coords c s)) ∗ scopedSems0 (thr d (coords c s)) ∗ owes (thr d (coords c s)) O W)
      ⊢ wp frame (wpE (defs₀ (F := F)) Variants.none (thr d (coords c s)) none) Set.univ (task (coords c s))
          fun _ => iprop(taskOut m d c s ∗ scopedBufs (thr d (coords c s)) ∗ scopedSems0 (thr d (coords c s))
            ∗ ∃ W', ⌜∀ p ∈ W', p ∈ W ∨ p.2 = none ∨ p.2 = some (0 : Fin 1)⌝ ∗ owes (thr d (coords c s)) O W') := by
  unfold taskIn taskOut rowsC rowsS
  exact (wp_task d (coords c s) hF _ _ _ _ _ _ (numbers_lt m hm d) hO).trans (wp_mono frame _ _ fun _ => owed_post d _)

set_option maxRecDepth 16384 in
/-- Every task meets what the launch asks of it. -/
theorem tileObl (hF : (K (F := F)).Facts) (hm : InRange m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have hc : Fin.cast nCore_zero c = ⟨((K (F := F)).core 0 c).val, hci.1⟩ := Fin.ext rfl
  have hi : Fin.cast nSub_zero i = ⟨((K (F := F)).sub 0 i).val, hci.2⟩ := Fin.ext rfl
  rw [go_eq, td_eq, hc, hi]
  exact wp_tile m hF hm d ⟨((K (F := F)).core 0 c).val, hci.1⟩ ⟨((K (F := F)).sub 0 i).val, hci.2⟩ hO

omit [FloatOps F] in
/-- A family over the call's tasks is the family over sixteen subcores. -/
theorem bigSep_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- A family over the call's SparseCores is the family over two. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] in
/-- A SparseCore's hand-over is its tasks'. -/
theorem vecSplit : (K (F := F)).VecSplit' (P m) 0 := by
  intro d c
  show (P m).st 0 d c ⊢ |={Set.univ}=> iprop((bigSep Finset.univ fun i : Fin ((K (F := F)).nSub 0) => (P m).go 0 d c i)
      ∗ ((bigSep Finset.univ fun i : Fin ((K (F := F)).nSub 0) => (P m).td 0 d c i) -∗ (P m).dn 0 d c))
  simp only [st_eq, dn_eq, go_eq, td_eq]
  rw [bigSep_subs (F := F) (taskIn m d (Fin.cast nCore_zero c)), bigSep_subs (F := F) (taskOut m d (Fin.cast nCore_zero c))]
  unfold coreIn coreOut
  iintro H; imodintro
  isplitl [H]; · iexact H
  iintro H; iexact H

/-! ## The launch element of the ghost state -/

def u₀ : UU := (initOf (K (F := F)).hsCells (K (F := F)).hsToks, 1)

omit [FloatOps F] in
/-- Nothing, however often, is nothing. -/
theorem bigSep_nothing {J : Type} (t : Finset J) : (bigSep t fun _ => iprop(emp)) = (iprop(emp) : sProp 𝕄) := bigSep_emp_const t

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

end Cert.KernelIdeal.Run

end
-- ==== Proof.KernelIdeal.Main.lean ====
/-
  @main on the TensorCore: the positions regrouped, the call, both results regrouped. Then the whole run: it always ends, with
  the two results at the named rows of the tables, the three arguments unchanged and every semaphore at zero.
-/
module

public import proofs.«01_k».proof.Proof.KernelIdeal.Launch

@[expose] public section

noncomputable section

namespace Cert.KernelIdeal.Run

open Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type}

local notation "𝕄" => MT nD τ sig (HIx 1) (Elt F) ℕ UU ℕ

variable (m : (ℓ : Loc nD τ sig) → Buf (Elt F) ℓ) (ρ : Dev nD → PrngReg)

/-! ## The TensorCore's arrays and operations -/

/-- A buffer of @main among a device's buffers. -/
abbrev at' (b : Ref sig .tc) : DevRef τ sig := Proc.devRef .tc b

/-- The three regroupings. -/
abbrev regroup : HloOp τ sig (Elt F) := StableHlo.reshape main_arg0 main_v0 (rfl : (.i32 : EltTy) = .i32) shapeCasts_S4x8192_S32x8x128
abbrev regroupC : HloOp τ sig (Elt F) := StableHlo.reshape main_v1_0 main_v2 (rfl : (.f32 : EltTy) = .f32) shapeCasts_S32768x128_S4x8192x128
abbrev regroupS : HloOp τ sig (Elt F) := StableHlo.reshape main_v1_1 main_v3 (rfl : (.f32 : EltTy) = .f32) shapeCasts_S32768x128_S4x8192x128

/-- All of @main's arrays. -/
abbrev arrays : Finset (DevRef τ sig) :=
  {at' main_arg0, at' main_arg1, at' main_arg2, at' main_v0, at' main_v1_0, at' main_v1_1, at' main_v2, at' main_v3}

/-- The arrays held, one by one. -/
theorem held_arrays (d : Dev nD) (W : Valuation τ sig (Elt F)) :
    (held (T d) arrays W : sProp 𝕄)
      = iprop((buf d main_arg0 ↦{fullShare} W (at' main_arg0)) ∗ (buf d main_arg1 ↦{fullShare} W (at' main_arg1))
          ∗ (buf d main_arg2 ↦{fullShare} W (at' main_arg2)) ∗ (buf d main_v0 ↦{fullShare} W (at' main_v0))
          ∗ (buf d main_v1_0 ↦{fullShare} W (at' main_v1_0)) ∗ (buf d main_v1_1 ↦{fullShare} W (at' main_v1_1))
          ∗ (buf d main_v2 ↦{fullShare} W (at' main_v2)) ∗ buf d main_v3 ↦{fullShare} W (at' main_v3)) := by
  unfold held arrays
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- They are all the buffers @main starts with. -/
theorem unscoped_arrays (d : Dev nD) (W : (b : Ref sig .tc) → Buf (Elt F) ((d.tc : Thread nD τ).loc b)) :
    (unscopedBufs d W : sProp 𝕄)
      = iprop((buf d main_arg0 ↦{fullShare} W main_arg0) ∗ (buf d main_arg1 ↦{fullShare} W main_arg1)
          ∗ (buf d main_arg2 ↦{fullShare} W main_arg2) ∗ (buf d main_v0 ↦{fullShare} W main_v0)
          ∗ (buf d main_v1_0 ↦{fullShare} W main_v1_0) ∗ (buf d main_v1_1 ↦{fullShare} W main_v1_1)
          ∗ (buf d main_v2 ↦{fullShare} W main_v2) ∗ buf d main_v3 ↦{fullShare} W main_v3) := by
  unfold unscopedBufs
  rw [show (Finset.univ.filter fun b : Ref sig .tc => ¬ b.isScoped)
      = {main_arg0, main_arg1, main_arg2, main_v0, main_v1_0, main_v1_1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The contents at launch. -/
def atLaunch (d : Dev nD) : Valuation τ sig (Elt F) := fun b => m (d, b)
/-- The contents the call starts from. -/
def atCall (d : Dev nD) : Valuation τ sig (Elt F) := (regroup (F := F)).result (atLaunch m d)
/-- The contents the call leaves: both results at the named rows. -/
def afterCall (d : Dev nD) : Valuation τ sig (Elt F) :=
  Function.update (Function.update (atCall m d) (at' main_v1_0) (rowsC m d)) (at' main_v1_1) (rowsS m d)
/-- The contents after the first result's regrouping, and at the end. -/
def afterC (d : Dev nD) : Valuation τ sig (Elt F) := (regroupC (F := F)).result (afterCall m d)
def atEnd (d : Dev nD) : Valuation τ sig (Elt F) := (regroupS (F := F)).result (afterC m d)

theorem unscoped_held (d : Dev nD) : (unscopedBufs d (fun b => m ((SparseCore.T d).loc b)) : sProp 𝕄) = held (T d) arrays (atLaunch m d) := by
  rw [unscoped_arrays, held_arrays]; rfl

/-- The first regrouping writes the row numbers and nothing else. -/
theorem atCall_numbers (d : Dev nD) : atCall m d (at' main_v0) = numbers m d := StableHlo.reshape_result _ _ _ _ _ _ _
theorem atCall_of_ne (d : Dev nD) {b : DevRef τ sig} (h : b ≠ at' main_v0) : atCall m d b = m (d, b) :=
  (regroup (F := F)).result_of_not_mem _ (show b ∉ ({at' main_v0} : Finset (DevRef τ sig)) from fun h' => h (Finset.mem_singleton.mp h'))

/-- The call writes its two results and nothing else. -/
theorem afterCall_c (d : Dev nD) : afterCall m d (at' main_v1_0) = rowsC m d :=
  (Function.update_of_ne (show at' main_v1_0 ≠ at' main_v1_1 by decide) _ _).trans (Function.update_self _ _ _)
theorem afterCall_s (d : Dev nD) : afterCall m d (at' main_v1_1) = rowsS m d := Function.update_self _ _ _
theorem afterCall_of_ne (d : Dev nD) {b : DevRef τ sig} (h : b ≠ at' main_v1_0) (h' : b ≠ at' main_v1_1) : afterCall m d b = atCall m d b :=
  (Function.update_of_ne h' _ _).trans (Function.update_of_ne h _ _)

theorem afterC_of_ne (d : Dev nD) {b : DevRef τ sig} (h : b ≠ at' main_v2) : afterC m d b = afterCall m d b :=
  (regroupC (F := F)).result_of_not_mem _ (show b ∉ ({at' main_v2} : Finset (DevRef τ sig)) from fun h' => h (Finset.mem_singleton.mp h'))
theorem atEnd_of_ne (d : Dev nD) {b : DevRef τ sig} (h : b ≠ at' main_v3) : atEnd m d b = afterC m d b :=
  (regroupS (F := F)).result_of_not_mem _ (show b ∉ ({at' main_v3} : Finset (DevRef τ sig)) from fun h' => h (Finset.mem_singleton.mp h'))

/-- An argument is as at launch to the end. -/
theorem atEnd_arg (d : Dev nD) {b : Ref sig .tc} (h0 : at' b ≠ at' main_v0) (h1 : at' b ≠ at' main_v1_0) (h2 : at' b ≠ at' main_v1_1)
    (h3 : at' b ≠ at' main_v2) (h4 : at' b ≠ at' main_v3) : atEnd m d (at' b) = m (buf d b) :=
  (atEnd_of_ne m d h4).trans ((afterC_of_ne m d h3).trans ((afterCall_of_ne m d h1 h2).trans (atCall_of_ne m d h0)))

/-- @main's results at the end. -/
theorem atEnd_c (d : Dev nD) : atEnd m d (at' main_v2) = resultC m d := by
  refine (atEnd_of_ne m d (by decide)).trans ((StableHlo.reshape_result _ _ _ _ _ _ _).trans ?_)
  unfold resultC
  rw [← afterCall_c]; rfl
theorem atEnd_s (d : Dev nD) : atEnd m d (at' main_v3) = resultS m d := by
  refine (StableHlo.reshape_result _ _ _ _ _ _ _).trans ?_
  unfold resultS
  rw [← afterCall_s, ← afterC_of_ne m d (show at' main_v1_1 ≠ at' main_v2 by decide)]; rfl

/-- The arrays when the call starts. -/
theorem held_atCall (d : Dev nD) :
    (held (T d) arrays (atCall m d) : sProp 𝕄)
      = iprop((buf d main_arg0 ↦{fullShare} m (buf d main_arg0)) ∗ (buf d main_arg1 ↦{fullShare} m (buf d main_arg1))
          ∗ (buf d main_arg2 ↦{fullShare} m (buf d main_arg2)) ∗ (buf d main_v0 ↦{fullShare} numbers m d)
          ∗ (buf d main_v1_0 ↦{fullShare} m (buf d main_v1_0)) ∗ (buf d main_v1_1 ↦{fullShare} m (buf d main_v1_1))
          ∗ (buf d main_v2 ↦{fullShare} m (buf d main_v2)) ∗ buf d main_v3 ↦{fullShare} m (buf d main_v3)) := by
  rw [held_arrays, atCall_numbers, atCall_of_ne m d (b := at' main_arg0) (by decide), atCall_of_ne m d (b := at' main_arg1) (by decide),
    atCall_of_ne m d (b := at' main_arg2) (by decide), atCall_of_ne m d (b := at' main_v1_0) (by decide),
    atCall_of_ne m d (b := at' main_v1_1) (by decide), atCall_of_ne m d (b := at' main_v2) (by decide), atCall_of_ne m d (b := at' main_v3) (by decide)]

/-- The arrays when the call has ended. -/
theorem held_afterCall (d : Dev nD) :
    (held (T d) arrays (afterCall m d) : sProp 𝕄)
      = iprop((buf d main_arg0 ↦{fullShare} m (buf d main_arg0)) ∗ (buf d main_arg1 ↦{fullShare} m (buf d main_arg1))
          ∗ (buf d main_arg2 ↦{fullShare} m (buf d main_arg2)) ∗ (buf d main_v0 ↦{fullShare} numbers m d)
          ∗ (buf d main_v1_0 ↦{fullShare} rowsC m d) ∗ (buf d main_v1_1 ↦{fullShare} rowsS m d)
          ∗ (buf d main_v2 ↦{fullShare} m (buf d main_v2)) ∗ buf d main_v3 ↦{fullShare} m (buf d main_v3)) := by
  rw [held_arrays, afterCall_c, afterCall_s, afterCall_of_ne m d (b := at' main_v0) (by decide) (by decide), atCall_numbers,
    afterCall_of_ne m d (b := at' main_arg0) (by decide) (by decide), atCall_of_ne m d (b := at' main_arg0) (by decide),
    afterCall_of_ne m d (b := at' main_arg1) (by decide) (by decide), atCall_of_ne m d (b := at' main_arg1) (by decide),
    afterCall_of_ne m d (b := at' main_arg2) (by decide) (by decide), atCall_of_ne m d (b := at' main_arg2) (by decide),
    afterCall_of_ne m d (b := at' main_v2) (by decide) (by decide), atCall_of_ne m d (b := at' main_v2) (by decide),
    afterCall_of_ne m d (b := at' main_v3) (by decide) (by decide), atCall_of_ne m d (b := at' main_v3) (by decide)]

/-- What @main leaves for the claims: the arguments as at launch, the two results. -/
abbrev FIN (d : Dev nD) : sProp 𝕄 :=
  iprop((buf d main_arg0 ↦{fullShare} m (buf d main_arg0)) ∗ (buf d main_arg1 ↦{fullShare} m (buf d main_arg1))
    ∗ (buf d main_arg2 ↦{fullShare} m (buf d main_arg2)) ∗ (buf d main_v2 ↦{fullShare} resultC m d) ∗ buf d main_v3 ↦{fullShare} resultS m d)

/-- The arrays at the end leave that. -/
theorem held_atEnd (d : Dev nD) : (held (T d) arrays (atEnd m d) : sProp 𝕄) ⊢ FIN m d := by
  rw [held_arrays, atEnd_c, atEnd_s, atEnd_arg m d (b := main_arg0) (by decide) (by decide) (by decide) (by decide) (by decide),
    atEnd_arg m d (b := main_arg1) (by decide) (by decide) (by decide) (by decide) (by decide),
    atEnd_arg m d (b := main_arg2) (by decide) (by decide) (by decide) (by decide) (by decide)]
  iintro ⟨H0, H1, H2, -, -, -, Hc, Hs⟩
  iframe H0 H1 H2 Hc Hs

theorem regroup_bufs : (regroup (F := F)).bufs ⊆ arrays := show ({at' main_arg0, at' main_v0} : Finset (DevRef τ sig)) ⊆ arrays by decide
theorem regroupC_bufs : (regroupC (F := F)).bufs ⊆ arrays := show ({at' main_v1_0, at' main_v2} : Finset (DevRef τ sig)) ⊆ arrays by decide
theorem regroupS_bufs : (regroupS (F := F)).bufs ⊆ arrays := show ({at' main_v1_1, at' main_v3} : Finset (DevRef τ sig)) ⊆ arrays by decide

/-- The call's five arrays are what its SparseCores take, and what they bring back. -/
theorem call_in (d : Dev nD) :
    (iprop((buf d main_v0 ↦{fullShare} numbers m d) ∗ (buf d main_arg1 ↦{fullShare} m (buf d main_arg1)) ∗ (buf d main_arg2 ↦{fullShare} m (buf d main_arg2))
        ∗ (buf d main_v1_0 ↦{fullShare} m (buf d main_v1_0)) ∗ (buf d main_v1_1 ↦{fullShare} m (buf d main_v1_1))) : sProp 𝕄)
      = bigSep Finset.univ fun c : Fin ((K (F := F)).nCore 0) => (P m).st 0 d c := by
  simp only [st_eq]
  rw [bigSep_cores (F := F) (coreIn m d), pieces_eq]
  rfl
theorem call_out (d : Dev nD) :
    (bigSep Finset.univ fun c : Fin ((K (F := F)).nCore 0) => (P m).dn 0 d c)
      = (iprop((buf d main_v0 ↦{fullShare} numbers m d) ∗ (buf d main_arg1 ↦{fullShare} m (buf d main_arg1)) ∗ (buf d main_arg2 ↦{fullShare} m (buf d main_arg2))
        ∗ (buf d main_v1_0 ↦{fullShare} rowsC m d) ∗ (buf d main_v1_1 ↦{fullShare} rowsS m d)) : sProp 𝕄) := by
  simp only [dn_eq]
  rw [bigSep_cores (F := F) (coreOut m d), pieces_eq]
  rfl

variable [FloatOps F]

/-- @main on a device's TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := regroup) (S := arrays) regroup_bufs (V := atLaunch m d)) $$ [Hb Hheld]
  · isplitl [Hb] <;> iassumption
  iintro ⟨Hb, Hheld⟩
  rw [wp_ret]; imodintro
  ihave Hh := (Entails.of_eq (show held (T d) arrays (regroup.result (atLaunch m d)) = _ from held_atCall (F := F) m d)) $$ Hheld
  icases Hh with ⟨H0, H1, H2, Hn, Hc, Hs, Hrc, Hrs⟩
  iapply ((K (F := F)).wp_run (D (F := F)) 𝒱 (EH := EH) (P := P m) κ d 0) $$ [Hst H0 H1 H2 Hn Hc Hs Hrc Hrs Hb Hts]
  isplitr; · iexact Hctx
  isplitl [Hst]; · iexact Hst
  isplitl [H1 H2 Hn Hc Hs]
  · iapply (Entails.of_eq (call_in m d))
    iframe Hn H1 H2 Hc Hs
  iintro ⟨Hst, Hdn⟩
  ihave Hdn' := (Entails.of_eq (call_out m d)) $$ Hdn
  icases Hdn' with ⟨Hn, H1, H2, Hc, Hs⟩
  ihave Hheld := (Entails.of_eq (held_afterCall (F := F) m d).symm) $$ [H0 H1 H2 Hn Hc Hs Hrc Hrs]
  · iframe H0 H1 H2 Hn Hc Hs Hrc Hrs
  iapply (wp_hlo_within 𝒱 (SparseCore.T d) none Set.univ (op := regroupC) (S := arrays) regroupC_bufs (V := afterCall m d)) $$ [Hb Hheld]
  · isplitl [Hb] <;> iassumption
  iintro ⟨Hb, Hheld⟩
  rw [wp_ret]; imodintro
  iapply (wp_hlo_within 𝒱 (SparseCore.T d) none Set.univ (op := regroupS) (S := arrays) regroupS_bufs (V := afterC m d)) $$ [Hb Hheld]
  · isplitl [Hb]
    · iexact Hb
    iapply (Entails.of_eq (show (held (T d) arrays (regroupC.result (afterCall m d)) : sProp 𝕄) = held (T d) arrays (afterC m d) from rfl))
    iexact Hheld
  iintro ⟨Hb, Hheld⟩
  ihave Hfin := (show (held (T d) arrays (regroupS.result (afterC m d)) : sProp 𝕄) ⊢ FIN m d from held_atEnd m d) $$ Hheld
  rw [wp_ret]; imodintro; imodintro
  isplitl [Hst]; · iexact Hst
  isplitl [Hfin]; · iexact Hfin
  isplitl [Hb] <;> iassumption

/-- What the claims read of a device's final memory. -/
def fq (d : Dev nD) (s' : Phys nD τ sig (Elt F)) : Prop :=
  s'.mem.mem (buf d main_arg0) = m (buf d main_arg0) ∧ s'.mem.mem (buf d main_arg1) = m (buf d main_arg1)
    ∧ s'.mem.mem (buf d main_arg2) = m (buf d main_arg2) ∧ s'.mem.mem (buf d main_v2) = resultC m d ∧ s'.mem.mem (buf d main_v3) = resultS m d

omit [FloatOps F] in
/-- An array held whole is what the memory has there. -/
theorem read_whole {ℓ : Loc nD τ sig} (f : Buf (Elt F) ℓ) (s' : Phys nD τ sig (Elt F)) :
    iprop(SI s' ∗ ℓ ↦{fullShare} f) ⊢ (iprop(⌜s'.mem.mem ℓ = f⌝ ∗ SI s') : sProp 𝕄) := by
  iintro ⟨HSI, H⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  iexact HSI

omit [FloatOps F] in
theorem hfin (d : Dev nD) (s' : Phys nD τ sig (Elt F)) : iprop(FIN m d ∗ SI s') ⊢ (⌜fq m d s'⌝ : sProp 𝕄) := by
  iintro ⟨⟨H0, H1, H2, Hc, Hs⟩, HSI⟩
  ihave H := (read_whole (m (buf d main_arg0)) s') $$ [HSI H0]
  · isplitl [HSI] <;> iassumption
  icases H with ⟨%e0, HSI⟩
  ihave H := (read_whole (m (buf d main_arg1)) s') $$ [HSI H1]
  · isplitl [HSI] <;> iassumption
  icases H with ⟨%e1, HSI⟩
  ihave H := (read_whole (m (buf d main_arg2)) s') $$ [HSI H2]
  · isplitl [HSI] <;> iassumption
  icases H with ⟨%e2, HSI⟩
  ihave H := (read_whole (ℓ := buf d main_v2) (resultC m d) s') $$ [HSI Hc]
  · isplitl [HSI] <;> iassumption
  icases H with ⟨%e3, HSI⟩
  ihave H := (read_whole (ℓ := buf d main_v3) (resultS m d) s') $$ [HSI Hs]
  · isplitl [HSI] <;> iassumption
  icases H with ⟨%e4, -⟩
  ipureintro
  exact ⟨e0, e1, e2, e3, e4⟩

/-! ## The program's run -/

/-- What a run ends with. -/
def QC : PUnit × MemSt nD τ sig (Elt F) → Prop := fun r =>
  (∀ d : Dev nD, r.2.mem (buf d main_arg0) = m (buf d main_arg0) ∧ r.2.mem (buf d main_arg1) = m (buf d main_arg1)
    ∧ r.2.mem (buf d main_arg2) = m (buf d main_arg2) ∧ r.2.mem (buf d main_v2) = resultC m d ∧ r.2.mem (buf d main_v3) = resultS m d)
  ∧ r.2.sem = fun _ => 0

/-- Every run from positions in range ends so. -/
theorem run_main [∀ e, Nonempty (Elt F e)] (hm : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hm)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Run

end
-- ==== Proof.Lookup.lean ====
/-
  The lookup both programs compute: entry (b, n, k) of a result is entry k of the table's row that position number (b, n) names.
  First the kernel's side: regrouped, gathered by tiles and regrouped again, the rows are this lookup. Then what the precondition
  says of each position number, and the pieces of the reference at one index: the wrapped number, the mask and the gather.
-/
module

public import proofs.«01_k».proof.Proof.Rows
public import Idealize.ShloMosaic.Lib.Pipeline.Value
public import Idealize.ShloMosaic.Lib.Affine
public import Idealize.ShloMosaic.Lib.ReduceAll

@[expose] public section

noncomputable section

namespace Cert.Rows

open Idealize.ShloMosaic Idealize.ShloMosaic.ValueIdx

/-- The shapes of the position numbers, of a result as returned, and of the start indices of the reference's gather. -/
abbrev Positions : Shape := ⟨2, ![4, 8192]⟩
abbrev Returned : Shape := ⟨3, ![4, 8192, 128]⟩
abbrev Starts : Shape := ⟨3, ![4, 8192, 1]⟩

variable {α : Type}

/-- The lookup. -/
def lookup (T : Table.Idx → α) (N : Positions.Idx → BitVec 32) : Returned.Idx → α :=
  fun y => T (ix2 (row (N (ix2 (y 0 : Fin 4) (y 1 : Fin 8192)))) (y 2 : Fin 128))

/-! ## The kernel's regroupings -/

/-- The row numbers' planes list the position numbers in order: result row `8192 b + n` takes position number (b, n). -/
theorem planes_place (N : Positions.Idx → BitVec 32) (h : Positions.ShapeCasts Planes) (b : Fin 4) (n : Fin 8192) :
    shapeCast Planes N h (place ⟨8192 * b.val + n.val, by omega⟩) = N (ix2 b n) :=
  shapeCast_apply N h _ _ (by
    rw [Shape.rowMajor_val_three, Shape.rowMajor_val_two]
    show b.val * 8192 + n.val
      = ((8192 * b.val + n.val) / 1024 * 8 + (8192 * b.val + n.val) / 128 % 8) * 128 + (8192 * b.val + n.val) % 128
    omega)

/-- The gathered rows, regrouped by batch, are the lookup. -/
theorem gathered_regrouped (T : Table.Idx → α) (N : Positions.Idx → BitVec 32) (h : Positions.ShapeCasts Planes) (h' : Result.ShapeCasts Returned) :
    shapeCast Returned (gathered T (shapeCast Planes N h)) h' = lookup T N := by
  funext y
  have h0 : (y 0).val < 4 := (y 0).isLt
  have h1 : (y 1).val < 8192 := (y 1).isLt
  refine (shapeCast_apply _ h' y (ix2 (⟨8192 * (y 0).val + (y 1).val, by omega⟩ : Fin 32768) (y 2 : Fin 128)) (by
    rw [Shape.rowMajor_val_three, Shape.rowMajor_val_two]
    show (8192 * (y 0).val + (y 1).val) * 128 + (y 2).val = ((y 0).val * 8192 + (y 1).val) * 128 + (y 2).val
    omega)).trans ?_
  exact congrArg (fun w => T (ix2 (row w) (y 2 : Fin 128))) (planes_place N h (y 0) (y 1))

/-! ## A position number in range -/

/-- Signed between 0 and 8192, a word is a number below 8192. -/
theorem below_of_tests {w : BitVec 32} (h : IntOp.andi (IntOp.cmpi .sge w 0#32) (IntOp.cmpi .slt w 8192#32) = 1#1) : w.toNat < 8192 := by
  obtain ⟨h0, h1⟩ := IntOp.andi_eq_one.1 h
  have h0 := IntOp.cmpi_sge.1 h0
  have h1 := IntOp.cmpi_slt.1 h1
  have hw := w.isLt
  simp only [BitVec.toInt_eq_toNat_cond, BitVec.toNat_ofNat, Nat.reducePow, Nat.reduceMod] at h0 h1
  omega

/-- Such a word read signed is the number. -/
theorem toInt_below {w : BitVec 32} (h : w.toNat < 8192) : w.toInt = w.toNat := by
  rw [BitVec.toInt_eq_toNat_cond, if_pos (by omega)]

/-- Such a word is not negative, so that wrapping leaves it. -/
theorem not_negative {w : BitVec 32} (h : w.toNat < 8192) : IntOp.cmpi .slt w 0#32 ≠ 1#1 := fun e => by
  have := IntOp.cmpi_slt.1 e
  rw [toInt_below h] at this
  simp at this
  omega

/-- Such a word passes the reference's test. -/
theorem passes {w : BitVec 32} (h : w.toNat < 8192) : IntOp.andi (IntOp.cmpi .sge w 0#32) (IntOp.cmpi .sle w 8191#32) = 1#1 :=
  IntOp.andi_eq_one.2 ⟨IntOp.cmpi_sge.2 (by rw [toInt_below h]; simp), IntOp.cmpi_sle.2 (by
    rw [toInt_below h, show (8191#32 : BitVec 32).toInt = 8191 by decide]; omega)⟩

/-! ## The reference's gather -/

/-- Where the reference's gather reads the start of result entry (b, n, k): at (b, n, 0). -/
def startOf (y : Returned.Idx) : Starts.Idx := ix3 (y 0 : Fin 4) (y 1 : Fin 8192) (0 : Fin 1)

/-- The reference's gather at one entry: the table's row named by the start read signed and clamped to the table, at the entry's lane. -/
theorem gather_entry (d : GatherDims Table Starts Returned) (ho : d.offsetDims = [2]) (hc : d.collapsedSliceDims = [0])
    (hb : d.operandBatchingDims = []) (hs : d.startIndicesBatchingDims = []) (hm : d.startIndexMap = [0]) (hv : d.indexVectorDim = 2)
    (hz : d.sliceSizes = ![1, 128]) (T : Table.Idx → α) (I : Starts.Idx → BitVec 32) (y : Returned.Idx) :
    Host.gather d T I y = T (ix2 (⟨min (I (startOf y)).toInt.toNat 8191, by omega⟩ : Fin 8192) (y 2 : Fin 128)) := by
  obtain ⟨_, _, _, _, _, _, _, wf⟩ := d
  dsimp only at ho hc hb hs hm hv hz
  subst ho hc hb hs hm hv hz
  generalize hd : (GatherDims.mk (s := Table) (si := Starts) (t := Returned) [2] [0] [] [] [0] 2 ![1, 128] wf) = d
  have hbc : ∀ a : Fin 2, d.batchCoord y a = 0 := fun a => d.batchCoord_eq_zero y a (by subst hd; exact List.not_mem_nil)
  have hrow : d.offCoord y (0 : Fin 2) = 0 :=
    d.offCoord_eq_zero y _ (fun h => ((d.mem_sKept _).mp h).1 (by subst hd; exact List.mem_singleton.mpr rfl))
  have hlane : d.offCoord y (1 : Fin 2) = (y 2).val := by subst hd; rfl
  have hstart0 : d.start y I (0 : Fin 2) = min (I (startOf y)).toInt.toNat 8191 := by
    subst hd
    unfold GatherDims.start
    refine (dif_pos (List.mem_singleton.mpr rfl)).trans ?_
    refine congrArg (fun x => min (I x).toInt.toNat 8191) (funext fun b => Fin.ext ?_)
    match b with
    | ⟨0, _⟩ => rfl
    | ⟨1, _⟩ => rfl
    | ⟨2, _⟩ => rfl
  have hstart1 : d.start y I (1 : Fin 2) = 0 := by
    subst hd
    unfold GatherDims.start
    exact dif_neg (show (1 : Fin 2) ∉ ([0] : List (Fin 2)) by decide)
  refine congrArg T (funext fun a => Fin.ext ?_)
  match a with
  | ⟨0, _⟩ => exact (show d.start y I (0 : Fin 2) + d.batchCoord y (0 : Fin 2) + d.offCoord y (0 : Fin 2) = min (I (startOf y)).toInt.toNat 8191 by
      rw [hbc, hrow, hstart0, Nat.add_zero])
  | ⟨1, _⟩ =>
    exact (show d.start y I (1 : Fin 2) + d.batchCoord y (1 : Fin 2) + d.offCoord y (1 : Fin 2) = (y 2).val by
      rw [hbc, hlane, hstart1, Nat.zero_add])

/-- Where the starts are the position numbers, all in range, the gather is the lookup. -/
theorem gather_lookup (d : GatherDims Table Starts Returned) (ho : d.offsetDims = [2]) (hc : d.collapsedSliceDims = [0])
    (hb : d.operandBatchingDims = []) (hs : d.startIndicesBatchingDims = []) (hm : d.startIndexMap = [0]) (hv : d.indexVectorDim = 2)
    (hz : d.sliceSizes = ![1, 128]) (T : Table.Idx → α) (N : Positions.Idx → BitVec 32) (hN : ∀ j, (N j).toNat < 8192)
    (I : Starts.Idx → BitVec 32) (hI : ∀ x, I x = N (ix2 (x 0 : Fin 4) (x 1 : Fin 8192))) (y : Returned.Idx) :
    Host.gather d T I y = lookup T N y := by
  refine (gather_entry d ho hc hb hs hm hv hz T I y).trans (congrArg (fun r : Fin 8192 => T (ix2 r (y 2 : Fin 128))) (Fin.ext ?_))
  have h := hN (ix2 (y 0 : Fin 4) (y 1 : Fin 8192))
  have hi : I (startOf y) = N (ix2 (y 0 : Fin 4) (y 1 : Fin 8192)) := hI _
  show min (I (startOf y)).toInt.toNat 8191 = (row (N (ix2 (y 0 : Fin 4) (y 1 : Fin 8192)))).val
  rw [row_val h, hi, toInt_below h, Int.toNat_natCast]
  omega

end Cert.Rows

end
-- ==== Proof.Precondition.lean ====
/-
  What the precondition says: every position number is below 8192.
-/
module

public import proofs.«01_k».proof.Proof.Lookup
public import proofs.«01_k».proof.Proof.Gen.Pre_positions_in_range

@[expose] public section

noncomputable section

namespace Cert.Pre_positions_in_range

open Idealize.ShloMosaic Cert.Pre_positions_in_range.Gen

variable {F : FTy → Type} [FloatOps F]

/-- A scalar's shape has one index. -/
instance : Subsingleton S_.Idx := ⟨fun _ _ => funext fun a => a.elim0⟩

/-- If the precondition holds of the arguments, every position number is below 8192. -/
theorem below (N : IVec S4x8192 32) (T₁ T₂ : FVec F S8192x128 .f32) (h : fn N T₁ T₂ = fun _ => 1#1) (j : S4x8192.Idx) : (N j).toNat < 8192 :=
  Rows.below_of_tests (Host.reduce_andi_all _ _ _ _ (fun a => a.elim0) (congrFun h _) j)

end Cert.Pre_positions_in_range

end
-- ==== Proof.Reference.lean ====
/-
  What the reference computes. `jnp.take` wraps a negative number by adding 8192, gathers, and keeps the rows whose number is then
  between 0 and 8191, filling the others with a NaN. On position numbers below 8192 the wrapping and the fill do nothing, so each
  result is the lookup.
-/
module

public import proofs.«01_k».proof.Proof.Lookup
public import proofs.«01_k».proof.Proof.Gen.ReferenceIdeal

@[expose] public section

noncomputable section

namespace Cert.ReferenceIdeal.Value

open Cert.ReferenceIdeal Cert.ReferenceIdeal.Gen Idealize.ShloMosaic Idealize.ShloMosaic.ValueIdx

variable {F : FTy → Type} [FloatOps F]

/-- The position numbers with the negative ones wrapped, one start per entry. -/
abbrev starts (N : IVec S4x8192 32) : IVec S4x8192x1 32 :=
  broadcastInDim S4x8192x1 ![0, 1] bcast_S4x8192_S4x8192x1_0_1
    (select (cmpi .slt N (broadcastInDim S4x8192 ![] bcast_S_S4x8192 (constantI S_ 32 0#32)))
      (addi N (broadcastInDim S4x8192 ![] bcast_S_S4x8192 (constantI S_ 32 8192#32))) N)

/-- Which starts are rows of the table. -/
abbrev tests (N : IVec S4x8192 32) : IVec S4x8192x1 1 :=
  andi (cmpi .sge (starts N) (broadcastInDim S4x8192x1 ![] bcast_S_S4x8192x1 (constantI S_ 32 0#32)))
    (cmpi .sle (starts N) (broadcastInDim S4x8192x1 ![0, 1, 2] bcast_S1x1x1_S4x8192x1_0_1_2
      (broadcastInDim S1x1x1 ![2] bcast_S1_S1x1x1_2 (constantI S1 32 8191#32))))

/-- A result of the reference: the gathered rows where every test holds, the NaN elsewhere. -/
abbrev taken (T : FVec F S8192x128 .f32) (N : IVec S4x8192 32) : FVec F S4x8192x128 .f32 :=
  select (broadcastInDim S4x8192x128 ![0, 1] bcast_S4x8192_S4x8192x128_0_1
      (Host.reduce IntOp.andi (tests N) (constantI S_ 1 1#1) reducesTo_S4x8192x1_S4x8192_d2 h_S_))
    (Host.gather gather_S8192x128_S4x8192x1_S4x8192x128_2_0_n_n_0_2_1128 T (starts N))
    (broadcastInDim S4x8192x128 ![] bcast_S_S4x8192x128 (constant S_ .f32 0x7FC00000#32))

/-- On numbers in range the starts are the numbers. -/
theorem starts_eq (N : IVec S4x8192 32) (hN : ∀ j, (N j).toNat < 8192) (x : S4x8192x1.Idx) :
    starts N x = N (ix2 (x 0 : Fin 4) (x 1 : Fin 8192)) := by
  have hx (g : IVec S4x8192 32) : broadcastInDim S4x8192x1 ![0, 1] bcast_S4x8192_S4x8192x1_0_1 g x = g (ix2 (x 0 : Fin 4) (x 1 : Fin 8192)) :=
    congrArg g (funext fun a => match a with | ⟨0, _⟩ => rfl | ⟨1, _⟩ => rfl)
  exact (hx _).trans (if_neg (Rows.not_negative (hN _)))

/-- On numbers in range every test holds. -/
theorem tests_eq (N : IVec S4x8192 32) (hN : ∀ j, (N j).toNat < 8192) (x : S4x8192x1.Idx) : tests N x = 1#1 := by
  show IntOp.andi (IntOp.cmpi .sge (starts N x) 0#32) (IntOp.cmpi .sle (starts N x) 8191#32) = 1#1
  rw [starts_eq N hN]
  exact Rows.passes (hN _)

omit [FloatOps F] in
/-- Where the mask is one everywhere, a selection is its first operand. -/
theorem select_ones {α : Type} {s t : Shape} {dims : Fin s.rank → Fin t.rank} (h : s.BroadcastsInDim t dims) (c : IVec s 1) (hc : ∀ j, c j = 1#1)
    (a b : t.Idx → α) : select (broadcastInDim t dims h c) a b = a :=
  funext fun _ => if_pos (hc _)

/-- On numbers in range a result of the reference is the lookup. -/
theorem taken_eq (T : FVec F S8192x128 .f32) (N : IVec S4x8192 32) (hN : ∀ j, (N j).toNat < 8192) : taken T N = Rows.lookup T N :=
  (select_ones _ _ (fun j => Host.reduce_andi_one _ _ _ _ j rfl (tests_eq N hN)) _ _).trans
    (funext fun y => Rows.gather_lookup _ rfl rfl rfl rfl rfl rfl rfl T N hN (starts N) (starts_eq N hN) y)

end Cert.ReferenceIdeal.Value

end
-- ==== Proof.Claims.lean ====
/-
  The claims. A run of the kernel ends with its results at the lookup; so does a run of the reference.
-/
module

public import proofs.«01_k».proof.Defs
public import proofs.«01_k».proof.Proof.Gen.ReferenceIdeal.Run
public import proofs.«01_k».proof.Proof.Kernel.Main
public import proofs.«01_k».proof.Proof.KernelIdeal.Main
public import proofs.«01_k».proof.Proof.Precondition
public import proofs.«01_k».proof.Proof.Reference

@[expose] public section

noncomputable section

namespace Cert.Proof

open Idealize.ShloMosaic Idealize.SL.Sem

/-- The precondition puts the kernel's position numbers in range, -/
theorem kernel_in_range (m : (ℓ : Loc Cert.Kernel.nD Cert.Kernel.τ Cert.Kernel.sig) → Buf (Elt Bits) ℓ) (h : Cert.Pre_Kernel m) :
    Cert.Kernel.Run.InRange m := fun d j => Cert.Pre_positions_in_range.below _ _ _ (h d) j

/-- and the ideal kernel's. -/
theorem ideal_in_range (m : (ℓ : Loc Cert.KernelIdeal.nD Cert.KernelIdeal.τ Cert.KernelIdeal.sig) → Buf (Elt Ideal) ℓ) (h : Cert.Pre_KernelIdeal m) :
    Cert.KernelIdeal.Run.InRange m := fun d j => Cert.Pre_positions_in_range.below _ _ _ (h d) j

/-- The kernel's frame. -/
theorem frame_kernel : Cert.quiescent_Kernel := fun m g h =>
  (θ_run Cert.Kernel.defs _ _).mono (fun _ e => ⟨fun c => ⟨(e.1 c).1, (e.1 c).2.1, (e.1 c).2.2.1⟩, e.2⟩)
    (Cert.Kernel.Run.run_main (F := Bits) m g (kernel_in_range m h))

/-- The ideal kernel's frame. -/
theorem frame_ideal : Cert.quiescent_KernelIdeal := fun m g h =>
  (θ_run Cert.KernelIdeal.defs _ _).mono (fun _ e => ⟨fun c => ⟨(e.1 c).1, (e.1 c).2.1, (e.1 c).2.2.1⟩, e.2⟩)
    (Cert.KernelIdeal.Run.run_main (F := Ideal) m g (ideal_in_range m h))

/-- The ideal kernel's results are the lookup of each table. -/
theorem ideal_cos (m : (ℓ : Loc Cert.KernelIdeal.nD Cert.KernelIdeal.τ Cert.KernelIdeal.sig) → Buf (Elt Ideal) ℓ) (d : Dev Cert.KernelIdeal.nD) :
    Cert.KernelIdeal.Run.resultC m d
      = Rows.lookup (m (Cert.KernelIdeal.Run.buf d Cert.KernelIdeal.main_arg1)) (m (Cert.KernelIdeal.Run.buf d Cert.KernelIdeal.main_arg0)) :=
  Rows.gathered_regrouped _ _ _ _
theorem ideal_sin (m : (ℓ : Loc Cert.KernelIdeal.nD Cert.KernelIdeal.τ Cert.KernelIdeal.sig) → Buf (Elt Ideal) ℓ) (d : Dev Cert.KernelIdeal.nD) :
    Cert.KernelIdeal.Run.resultS m d
      = Rows.lookup (m (Cert.KernelIdeal.Run.buf d Cert.KernelIdeal.main_arg2)) (m (Cert.KernelIdeal.Run.buf d Cert.KernelIdeal.main_arg0)) :=
  Rows.gathered_regrouped _ _ _ _

/-- The reference's frame, with no precondition: it has no semaphore, -/
theorem frame_reference : Cert.quiescent_ReferenceIdeal := fun m g _ =>
  (θ_run Cert.ReferenceIdeal.defs _ _).mono (fun r e => ⟨fun c => (e c).2.2, sem_eq_zero_of_no_sems (by decide) r.2⟩)
    (Cert.ReferenceIdeal.Value.run (F := Ideal) m g)

/-- and so under one. -/
theorem frame_reference_in_range : Cert.quiescent_ReferenceIdeal_pre_positions_in_range := fun m g _ => frame_reference m g trivial

/-- Ideal kernel and ideal reference end with equal results. -/
theorem equal_results : Cert.algebraic_KernelIdeal_ReferenceIdeal := fun m g m' g' h ha => by
  have hr := ideal_in_range m h
  refine ⟨Cert.KernelIdeal.Run.resultC m, Cert.KernelIdeal.Run.resultS m, ?_, ?_⟩
  · exact (θ_run Cert.KernelIdeal.defs _ _).mono
      (fun _ e c => ⟨(e.1 c).2.2.2.1, (e.1 c).2.2.2.2, (e.1 c).1, (e.1 c).2.1, (e.1 c).2.2.1⟩)
      (Cert.KernelIdeal.Run.run_main (F := Ideal) m g hr)
  · refine (θ_run Cert.ReferenceIdeal.defs _ _).mono (fun r e c => ?_) (Cert.ReferenceIdeal.Value.run (F := Ideal) m' g')
    obtain ⟨ec, es, e0, e1, e2⟩ := e c
    obtain ⟨a0, a1, a2⟩ := ha c
    refine ⟨ec.trans ?_, es.trans ?_, e0, e1, e2⟩
    · rw [a0, a1]
      exact (Cert.ReferenceIdeal.Value.taken_eq (F := Ideal) (m (Cert.KernelIdeal.Run.buf c Cert.KernelIdeal.main_arg1))
        (m (Cert.KernelIdeal.Run.buf c Cert.KernelIdeal.main_arg0)) (hr c)).trans (ideal_cos m c).symm
    · rw [a0, a2]
      exact (Cert.ReferenceIdeal.Value.taken_eq (F := Ideal) (m (Cert.KernelIdeal.Run.buf c Cert.KernelIdeal.main_arg2))
        (m (Cert.KernelIdeal.Run.buf c Cert.KernelIdeal.main_arg0)) (hr c)).trans (ideal_sin m c).symm

end Cert.Proof

end
-- ==== Proof.lean ====
/-
  The certificate: frames of the kernel, the ideal kernel and the reference, the ideal kernel as the kernel over the extended reals,
  and equal results of ideal kernel and reference. Each is a theorem of Proof/Claims.lean; here they are put together.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_positions_in_range
public import proofs.«01_k».proof.Proof.Claims
public import Idealize.ShloMosaic.Adequacy
public import Idealize.ShloMosaic.Init

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Pre_positions_in_range.Gen.facts,
    frame_kernel, frame_ideal, frame_reference, frame_reference_in_range, trivial, equal_results⟩

end Cert.Proof

end
